-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_capacity_KernelIdeal [hPre_capacity_KernelIdeal : Cert.Pre_capacity_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_capacity_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_capacity_ReferenceIdeal [hPre_capacity_ReferenceIdeal : Cert.Pre_capacity_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_capacity_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_capacity_KernelIdeal [hKernelIdeal : Cert.KernelIdeal.Facts] [hPre_capacity_KernelIdeal : Cert.Pre_capacity_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_capacity_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_capacity_ReferenceIdeal [hReferenceIdeal : Cert.ReferenceIdeal.Facts] [hPre_capacity_ReferenceIdeal : Cert.Pre_capacity_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_capacity_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_capacity_KernelIdeal [hKernelIdeal : Cert.KernelIdeal.Facts] [hReferenceIdeal : Cert.ReferenceIdeal.Facts] [hPre_capacity_KernelIdeal : Cert.Pre_capacity_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_capacity_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![8192, 256]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![512, 1]⟩ ⟨2, ![8192, 1]⟩ 0 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![2, 256, 512]⟩ ⟨3, ![32, 256, 512]⟩ 0 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 512]⟩ ⟨2, ![8192, 512]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v27) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_capacity_KernelIdeal : Cert.Pre_capacity_KernelIdeal.Facts) (hPre_capacity_ReferenceIdeal : Cert.Pre_capacity_ReferenceIdeal.Facts),
    quiescent_Kernel (hKernel := hKernel)
    ∧ quiescent_KernelIdeal (hKernelIdeal := hKernelIdeal)
    ∧ quiescent_KernelIdeal_pre_capacity_KernelIdeal (hKernelIdeal := hKernelIdeal) (hPre_capacity_KernelIdeal := hPre_capacity_KernelIdeal)
    ∧ quiescent_ReferenceIdeal (hReferenceIdeal := hReferenceIdeal)
    ∧ quiescent_ReferenceIdeal_pre_capacity_ReferenceIdeal (hReferenceIdeal := hReferenceIdeal) (hPre_capacity_ReferenceIdeal := hPre_capacity_ReferenceIdeal)
    ∧ preserves_Kernel_KernelIdeal
    ∧ algebraic_KernelIdeal_ReferenceIdeal_pre_capacity_KernelIdeal (hKernelIdeal := hKernelIdeal) (hReferenceIdeal := hReferenceIdeal) (hPre_capacity_KernelIdeal := hPre_capacity_KernelIdeal)
-- ==== Pre_capacity_KernelIdeal.lean ====
abbrev S512x256 : Shape := ⟨2, ![512, 256]⟩
abbrev S256x32 : Shape := ⟨2, ![256, 32]⟩
abbrev S512x1 : Shape := ⟨2, ![512, 1]⟩
abbrev S2x256x512 : Shape := ⟨3, ![2, 256, 512]⟩
abbrev S256x512 : Shape := ⟨2, ![256, 512]⟩
abbrev S_ : Shape := ⟨0, ![]⟩
abbrev S1x512 : Shape := ⟨2, ![1, 512]⟩
abbrev S512x512 : Shape := ⟨2, ![512, 512]⟩
abbrev S512 : Shape := ⟨1, ![512]⟩

class Facts : Prop where
  bcast_S_S512x1 : S_.BroadcastsInDim S512x1 (![] : Fin 0 → Fin S512x1.rank)
  transposes_S512x1_S1x512_1_0 : S512x1.Transposes [1, 0] S1x512
  bcast_S512x1_S512x512_0_1 : S512x1.BroadcastsInDim S512x512 (![0, 1] : Fin 2 → Fin S512x512.rank)
  bcast_S1x512_S512x512_0_1 : S1x512.BroadcastsInDim S512x512 (![0, 1] : Fin 2 → Fin S512x512.rank)
  natLt_1_32 : 1 < 32
  reducesTo_S512x512_S512_d1 : S512x512.ReducesTo [1] S512
  h_S_ : 0 < S_.numel
  bcast_S512_S512x1_0 : S512.BroadcastsInDim S512x1 (![0] : Fin 1 → Fin S512x1.rank)

variable [Facts]

def fn {F : FTy → Type} [FloatOps F] (main_arg0 : FVec F S512x256 .bf16) (main_arg1 : FVec F S256x32 .bf16) (main_arg2 : IVec S512x1 32) (main_arg3 : FVec F S2x256x512 .bf16) (main_arg4 : FVec F S256x512 .bf16) : IVec S512x1 1 :=
  let main_c : IVec S_ 32 := constantI S_ 32 2#32
  let main_v0 : IVec S512x1 32 := broadcastInDim S512x1 ![] bcast_S_S512x1 main_c
  let main_v1 : IVec S512x1 32 := Host.divsi main_arg2 main_v0
  let main_v2 : IVec S1x512 32 := (transpose S1x512 [1, 0] · transposes_S512x1_S1x512_1_0) main_v1
  let main_v3 : IVec S512x512 32 := broadcastInDim S512x512 ![0, 1] bcast_S512x1_S512x512_0_1 main_v1
  let main_v4 : IVec S512x512 32 := broadcastInDim S512x512 ![0, 1] bcast_S1x512_S512x512_0_1 main_v2
  let main_v5 : IVec S512x512 1 := cmpi .eq main_v3 main_v4
  let main_v6 : IVec S512x512 32 := (extui 32 · natLt_1_32) main_v5
  let main_c_0 : IVec S_ 32 := constantI S_ 32 0#32
  let main_v7 : IVec S512 32 := (fun x v => Host.reduce IntOp.addi x v reducesTo_S512x512_S512_d1 h_S_) main_v6 main_c_0
  let main_v8 : IVec S512x1 32 := broadcastInDim S512x1 ![0] bcast_S512_S512x1_0 main_v7
  let main_c_1 : IVec S_ 32 := constantI S_ 32 0#32
  let main_v9 : IVec S512x1 32 := broadcastInDim S512x1 ![] bcast_S_S512x1 main_c_1
  let main_v10 : IVec S512x1 1 := cmpi .sge main_arg2 main_v9
  let main_c_2 : IVec S_ 32 := constantI S_ 32 32#32
  let main_v11 : IVec S512x1 32 := broadcastInDim S512x1 ![] bcast_S_S512x1 main_c_2
  let main_v12 : IVec S512x1 1 := cmpi .slt main_arg2 main_v11
  let main_v13 : IVec S512x1 1 := andi main_v10 main_v12
  let main_c_3 : IVec S_ 32 := constantI S_ 32 64#32
  let main_v14 : IVec S512x1 32 := broadcastInDim S512x1 ![] bcast_S_S512x1 main_c_3
  let main_v15 : IVec S512x1 1 := cmpi .sle main_v8 main_v14
  let main_v16 : IVec S512x1 1 := andi main_v13 main_v15
  main_v16
-- ==== Pre_capacity_ReferenceIdeal.lean ====
abbrev S8192x256 : Shape := ⟨2, ![8192, 256]⟩
abbrev S256x32 : Shape := ⟨2, ![256, 32]⟩
abbrev S8192x1 : Shape := ⟨2, ![8192, 1]⟩
abbrev S32x256x512 : Shape := ⟨3, ![32, 256, 512]⟩
abbrev S256x512 : Shape := ⟨2, ![256, 512]⟩
abbrev S_ : Shape := ⟨0, ![]⟩
abbrev S1x8192 : Shape := ⟨2, ![1, 8192]⟩
abbrev S8192x8192 : Shape := ⟨2, ![8192, 8192]⟩
abbrev S8192 : Shape := ⟨1, ![8192]⟩

class Facts : Prop where
  bcast_S_S8192x1 : S_.BroadcastsInDim S8192x1 (![] : Fin 0 → Fin S8192x1.rank)
  transposes_S8192x1_S1x8192_1_0 : S8192x1.Transposes [1, 0] S1x8192
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  natLt_1_32 : 1 < 32
  reducesTo_S8192x8192_S8192_d1 : S8192x8192.ReducesTo [1] S8192
  h_S_ : 0 < S_.numel
  bcast_S8192_S8192x1_0 : S8192.BroadcastsInDim S8192x1 (![0] : Fin 1 → Fin S8192x1.rank)

variable [Facts]

def fn {F : FTy → Type} [FloatOps F] (main_arg0 : FVec F S8192x256 .bf16) (main_arg1 : FVec F S256x32 .bf16) (main_arg2 : IVec S8192x1 32) (main_arg3 : FVec F S32x256x512 .bf16) (main_arg4 : FVec F S256x512 .bf16) : IVec S8192x1 1 :=
  let main_c : IVec S_ 32 := constantI S_ 32 2#32
  let main_v0 : IVec S8192x1 32 := broadcastInDim S8192x1 ![] bcast_S_S8192x1 main_c
  let main_v1 : IVec S8192x1 32 := Host.divsi main_arg2 main_v0
  let main_v2 : IVec S1x8192 32 := (transpose S1x8192 [1, 0] · transposes_S8192x1_S1x8192_1_0) main_v1
  let main_v3 : IVec S8192x8192 32 := broadcastInDim S8192x8192 ![0, 1] bcast_S8192x1_S8192x8192_0_1 main_v1
  let main_v4 : IVec S8192x8192 32 := broadcastInDim S8192x8192 ![0, 1] bcast_S1x8192_S8192x8192_0_1 main_v2
  let main_v5 : IVec S8192x8192 1 := cmpi .eq main_v3 main_v4
  let main_v6 : IVec S8192x8192 32 := (extui 32 · natLt_1_32) main_v5
  let main_c_0 : IVec S_ 32 := constantI S_ 32 0#32
  let main_v7 : IVec S8192 32 := (fun x v => Host.reduce IntOp.addi x v reducesTo_S8192x8192_S8192_d1 h_S_) main_v6 main_c_0
  let main_v8 : IVec S8192x1 32 := broadcastInDim S8192x1 ![0] bcast_S8192_S8192x1_0 main_v7
  let main_c_1 : IVec S_ 32 := constantI S_ 32 0#32
  let main_v9 : IVec S8192x1 32 := broadcastInDim S8192x1 ![] bcast_S_S8192x1 main_c_1
  let main_v10 : IVec S8192x1 1 := cmpi .sge main_arg2 main_v9
  let main_c_2 : IVec S_ 32 := constantI S_ 32 32#32
  let main_v11 : IVec S8192x1 32 := broadcastInDim S8192x1 ![] bcast_S_S8192x1 main_c_2
  let main_v12 : IVec S8192x1 1 := cmpi .slt main_arg2 main_v11
  let main_v13 : IVec S8192x1 1 := andi main_v10 main_v12
  let main_c_3 : IVec S_ 32 := constantI S_ 32 64#32
  let main_v14 : IVec S8192x1 32 := broadcastInDim S8192x1 ![] bcast_S_S8192x1 main_c_3
  let main_v15 : IVec S8192x1 1 := cmpi .sle main_v8 main_v14
  let main_v16 : IVec S8192x1 1 := andi main_v13 main_v15
  main_v16
-- ==== Kernel.lean ====
abbrev S512x256 : Shape := ⟨2, ![512, 256]⟩
abbrev S256x32 : Shape := ⟨2, ![256, 32]⟩
abbrev S512x1 : Shape := ⟨2, ![512, 1]⟩
abbrev S2x256x512 : Shape := ⟨3, ![2, 256, 512]⟩
abbrev S256x512 : Shape := ⟨2, ![256, 512]⟩
abbrev S512x512 : Shape := ⟨2, ![512, 512]⟩
abbrev S15x64x384 : Shape := ⟨3, ![15, 64, 384]⟩
abbrev S15x64x512 : Shape := ⟨3, ![15, 64, 512]⟩
abbrev S15 : Shape := ⟨1, ![15]⟩
abbrev S_ : Shape := ⟨0, ![]⟩
abbrev S512x16 : Shape := ⟨2, ![512, 16]⟩
abbrev S512 : Shape := ⟨1, ![512]⟩
abbrev S512x960 : Shape := ⟨2, ![512, 960]⟩
abbrev S512x128 : Shape := ⟨2, ![512, 128]⟩
abbrev S960x256 : Shape := ⟨2, ![960, 256]⟩
abbrev S960x128 : Shape := ⟨2, ![960, 128]⟩
abbrev S15x64x256 : Shape := ⟨3, ![15, 64, 256]⟩
abbrev S15x64x128 : Shape := ⟨3, ![15, 64, 128]⟩
abbrev S1 : Shape := ⟨1, ![1]⟩
abbrev S1x64x384 : Shape := ⟨3, ![1, 64, 384]⟩
abbrev S64x384 : Shape := ⟨2, ![64, 384]⟩
abbrev S1x256x512 : Shape := ⟨3, ![1, 256, 512]⟩
abbrev S3x64x384 : Shape := ⟨3, ![3, 64, 384]⟩
abbrev S192x384 : Shape := ⟨2, ![192, 384]⟩
abbrev S192x256 : Shape := ⟨2, ![192, 256]⟩
abbrev S192x1 : Shape := ⟨2, ![192, 1]⟩
abbrev S192x512 : Shape := ⟨2, ![192, 512]⟩
abbrev S3x64x512 : Shape := ⟨3, ![3, 64, 512]⟩
abbrev S1x64x512 : Shape := ⟨3, ![1, 64, 512]⟩
abbrev S64x512 : Shape := ⟨2, ![64, 512]⟩
abbrev S512x32 : Shape := ⟨2, ![512, 32]⟩
abbrev S512x192 : Shape := ⟨2, ![512, 192]⟩

abbrev nBuf : Space → Nat
  | .hbm => 6
  | .vmem => 10
  | .smem => 0
  | _ => 0

abbrev bufTy : (tb : Table) → Fin (tcTables nBuf tb) → BufTy
  | .hbm, ⟨0, _⟩ => ⟨S512x256, .bf16⟩
  | .hbm, ⟨1, _⟩ => ⟨S256x32, .bf16⟩
  | .hbm, ⟨2, _⟩ => ⟨S512x1, .i32⟩
  | .hbm, ⟨3, _⟩ => ⟨S2x256x512, .bf16⟩
  | .hbm, ⟨4, _⟩ => ⟨S256x512, .bf16⟩
  | .hbm, ⟨5, _⟩ => ⟨S512x512, .f32⟩
  | .local _ .vmem, ⟨0, _⟩ => ⟨S512x256, .bf16⟩
  | .local _ .vmem, ⟨1, _⟩ => ⟨S256x32, .bf16⟩
  | .local _ .vmem, ⟨2, _⟩ => ⟨S512x1, .i32⟩
  | .local _ .vmem, ⟨3, _⟩ => ⟨S2x256x512, .bf16⟩
  | .local _ .vmem, ⟨4, _⟩ => ⟨S256x512, .bf16⟩
  | .local _ .vmem, ⟨5, _⟩ => ⟨S512x512, .f32⟩
  | .local _ .vmem, ⟨6, _⟩ => ⟨S15x64x384, .fp8e4m3⟩
  | .local _ .vmem, ⟨7, _⟩ => ⟨S15x64x384, .fp8e4m3⟩
  | .local _ .vmem, ⟨8, _⟩ => ⟨S15x64x512, .fp8e4m3⟩
  | .local _ .vmem, ⟨9, _⟩ => ⟨S15x64x512, .fp8e4m3⟩
  | _, _ => ⟨S512x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.addi v4 c16_i32_1
  let c16_i32_2 : BitVec 32 := 16#32
  let v6 : BitVec 32 := Scalar.remsi v5 c16_i32_2
  let c1_i32_4 : BitVec 32 := 1#32
  let v7 : BitVec 32 := Scalar.muli v6 c1_i32_4
  let v8 : BitVec 32 := Scalar.addi c0_i32 v7
  v8.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v9 : BitVec 32 := Scalar.addi v2 c2_i32
  let c16_i32_5 : BitVec 32 := 16#32
  let v10 : BitVec 32 := Scalar.addi v9 c16_i32_5
  let c16_i32_6 : BitVec 32 := 16#32
  let v11 : BitVec 32 := Scalar.remsi v10 c16_i32_6
  let c1_i32_8 : BitVec 32 := 1#32
  let v12 : BitVec 32 := Scalar.muli v11 c1_i32_8
  let v13 : BitVec 32 := Scalar.addi c0_i32_9 v12
  v13.toNat
def k0_dev3 (d0 : Dev nD) : Nat :=
  let c0_i32_14 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v14 : BitVec 32 := Scalar.addi v2 c3_i32
  let c16_i32_10 : BitVec 32 := 16#32
  let v15 : BitVec 32 := Scalar.addi v14 c16_i32_10
  let c16_i32_11 : BitVec 32 := 16#32
  let v16 : BitVec 32 := Scalar.remsi v15 c16_i32_11
  let c1_i32_13 : BitVec 32 := 1#32
  let v17 : BitVec 32 := Scalar.muli v16 c1_i32_13
  let v18 : BitVec 32 := Scalar.addi c0_i32_14 v17
  v18.toNat
def k0_dev4 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v19 : BitVec 32 := Scalar.addi v2 c4_i32
  let c16_i32_15 : BitVec 32 := 16#32
  let v20 : BitVec 32 := Scalar.addi v19 c16_i32_15
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev5 (d0 : Dev nD) : Nat :=
  let c0_i32_24 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v24 : BitVec 32 := Scalar.addi v2 c5_i32
  let c16_i32_20 : BitVec 32 := 16#32
  let v25 : BitVec 32 := Scalar.addi v24 c16_i32_20
  let c16_i32_21 : BitVec 32 := 16#32
  let v26 : BitVec 32 := Scalar.remsi v25 c16_i32_21
  let c1_i32_23 : BitVec 32 := 1#32
  let v27 : BitVec 32 := Scalar.muli v26 c1_i32_23
  let v28 : BitVec 32 := Scalar.addi c0_i32_24 v27
  v28.toNat
def k0_dev6 (d0 : Dev nD) : Nat :=
  let c0_i32_29 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v29 : BitVec 32 := Scalar.addi v2 c6_i32
  let c16_i32_25 : BitVec 32 := 16#32
  let v30 : BitVec 32 := Scalar.addi v29 c16_i32_25
  let c16_i32_26 : BitVec 32 := 16#32
  let v31 : BitVec 32 := Scalar.remsi v30 c16_i32_26
  let c1_i32_28 : BitVec 32 := 1#32
  let v32 : BitVec 32 := Scalar.muli v31 c1_i32_28
  let v33 : BitVec 32 := Scalar.addi c0_i32_29 v32
  v33.toNat
def k0_dev7 (d0 : Dev nD) : Nat :=
  let c0_i32_34 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v34 : BitVec 32 := Scalar.addi v2 c7_i32
  let c16_i32_30 : BitVec 32 := 16#32
  let v35 : BitVec 32 := Scalar.addi v34 c16_i32_30
  let c16_i32_31 : BitVec 32 := 16#32
  let v36 : BitVec 32 := Scalar.remsi v35 c16_i32_31
  let c1_i32_33 : BitVec 32 := 1#32
  let v37 : BitVec 32 := Scalar.muli v36 c1_i32_33
  let v38 : BitVec 32 := Scalar.addi c0_i32_34 v37
  v38.toNat
def k0_dev8 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v39 : BitVec 32 := Scalar.addi v2 c8_i32
  let c16_i32_35 : BitVec 32 := 16#32
  let v40 : BitVec 32 := Scalar.addi v39 c16_i32_35
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev9 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v44 : BitVec 32 := Scalar.addi v2 c9_i32
  let c16_i32_40 : BitVec 32 := 16#32
  let v45 : BitVec 32 := Scalar.addi v44 c16_i32_40
  let c16_i32_41 : BitVec 32 := 16#32
  let v46 : BitVec 32 := Scalar.remsi v45 c16_i32_41
  let c1_i32_43 : BitVec 32 := 1#32
  let v47 : BitVec 32 := Scalar.muli v46 c1_i32_43
  let v48 : BitVec 32 := Scalar.addi c0_i32_44 v47
  v48.toNat
def k0_dev10 (d0 : Dev nD) : Nat :=
  let c0_i32_49 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v49 : BitVec 32 := Scalar.addi v2 c10_i32
  let c16_i32_45 : BitVec 32 := 16#32
  let v50 : BitVec 32 := Scalar.addi v49 c16_i32_45
  let c16_i32_46 : BitVec 32 := 16#32
  let v51 : BitVec 32 := Scalar.remsi v50 c16_i32_46
  let c1_i32_48 : BitVec 32 := 1#32
  let v52 : BitVec 32 := Scalar.muli v51 c1_i32_48
  let v53 : BitVec 32 := Scalar.addi c0_i32_49 v52
  v53.toNat
def k0_dev11 (d0 : Dev nD) : Nat :=
  let c0_i32_54 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v54 : BitVec 32 := Scalar.addi v2 c11_i32
  let c16_i32_50 : BitVec 32 := 16#32
  let v55 : BitVec 32 := Scalar.addi v54 c16_i32_50
  let c16_i32_51 : BitVec 32 := 16#32
  let v56 : BitVec 32 := Scalar.remsi v55 c16_i32_51
  let c1_i32_53 : BitVec 32 := 1#32
  let v57 : BitVec 32 := Scalar.muli v56 c1_i32_53
  let v58 : BitVec 32 := Scalar.addi c0_i32_54 v57
  v58.toNat
def k0_dev12 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v59 : BitVec 32 := Scalar.addi v2 c12_i32
  let c16_i32_55 : BitVec 32 := 16#32
  let v60 : BitVec 32 := Scalar.addi v59 c16_i32_55
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_dev13 (d0 : Dev nD) : Nat :=
  let c0_i32_64 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v64 : BitVec 32 := Scalar.addi v2 c13_i32
  let c16_i32_60 : BitVec 32 := 16#32
  let v65 : BitVec 32 := Scalar.addi v64 c16_i32_60
  let c16_i32_61 : BitVec 32 := 16#32
  let v66 : BitVec 32 := Scalar.remsi v65 c16_i32_61
  let c1_i32_63 : BitVec 32 := 1#32
  let v67 : BitVec 32 := Scalar.muli v66 c1_i32_63
  let v68 : BitVec 32 := Scalar.addi c0_i32_64 v67
  v68.toNat
def k0_dev14 (d0 : Dev nD) : Nat :=
  let c0_i32_69 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v69 : BitVec 32 := Scalar.addi v2 c14_i32
  let c16_i32_65 : BitVec 32 := 16#32
  let v70 : BitVec 32 := Scalar.addi v69 c16_i32_65
  let c16_i32_66 : BitVec 32 := 16#32
  let v71 : BitVec 32 := Scalar.remsi v70 c16_i32_66
  let c1_i32_68 : BitVec 32 := 1#32
  let v72 : BitVec 32 := Scalar.muli v71 c1_i32_68
  let v73 : BitVec 32 := Scalar.addi c0_i32_69 v72
  v73.toNat
def k0_dev15 (d0 : Dev nD) : Nat :=
  let c0_i32_74 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v74 : BitVec 32 := Scalar.addi v2 c15_i32
  let c16_i32_70 : BitVec 32 := 16#32
  let v75 : BitVec 32 := Scalar.addi v74 c16_i32_70
  let c16_i32_71 : BitVec 32 := 16#32
  let v76 : BitVec 32 := Scalar.remsi v75 c16_i32_71
  let c1_i32_73 : BitVec 32 := 1#32
  let v77 : BitVec 32 := Scalar.muli v76 c1_i32_73
  let v78 : BitVec 32 := Scalar.addi c0_i32_74 v77
  v78.toNat
def k0_dev16 (d0 : Dev nD) : Nat :=
  let c0_i32_103 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_95 : BitVec 32 := 1#32
  let v144 : BitVec 32 := Scalar.addi v2 c1_i32_95
  let c16_i32_96 : BitVec 32 := 16#32
  let v145 : BitVec 32 := Scalar.addi v144 c16_i32_96
  let c16_i32_97 : BitVec 32 := 16#32
  let v146 : BitVec 32 := Scalar.remsi v145 c16_i32_97
  let c1_i32_102 : BitVec 32 := 1#32
  let v147 : BitVec 32 := Scalar.muli v146 c1_i32_102
  let v148 : BitVec 32 := Scalar.addi c0_i32_103 v147
  v148.toNat
def k0_dev17 (d0 : Dev nD) : Nat :=
  let c0_i32_116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_108 : BitVec 32 := 2#32
  let v157 : BitVec 32 := Scalar.addi v2 c2_i32_108
  let c16_i32_109 : BitVec 32 := 16#32
  let v158 : BitVec 32 := Scalar.addi v157 c16_i32_109
  let c16_i32_110 : BitVec 32 := 16#32
  let v159 : BitVec 32 := Scalar.remsi v158 c16_i32_110
  let c1_i32_115 : BitVec 32 := 1#32
  let v160 : BitVec 32 := Scalar.muli v159 c1_i32_115
  let v161 : BitVec 32 := Scalar.addi c0_i32_116 v160
  v161.toNat
def k0_dev18 (d0 : Dev nD) : Nat :=
  let c0_i32_129 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_121 : BitVec 32 := 3#32
  let v170 : BitVec 32 := Scalar.addi v2 c3_i32_121
  let c16_i32_122 : BitVec 32 := 16#32
  let v171 : BitVec 32 := Scalar.addi v170 c16_i32_122
  let c16_i32_123 : BitVec 32 := 16#32
  let v172 : BitVec 32 := Scalar.remsi v171 c16_i32_123
  let c1_i32_128 : BitVec 32 := 1#32
  let v173 : BitVec 32 := Scalar.muli v172 c1_i32_128
  let v174 : BitVec 32 := Scalar.addi c0_i32_129 v173
  v174.toNat
def k0_dev19 (d0 : Dev nD) : Nat :=
  let c0_i32_142 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_134 : BitVec 32 := 4#32
  let v183 : BitVec 32 := Scalar.addi v2 c4_i32_134
  let c16_i32_135 : BitVec 32 := 16#32
  let v184 : BitVec 32 := Scalar.addi v183 c16_i32_135
  let c16_i32_136 : BitVec 32 := 16#32
  let v185 : BitVec 32 := Scalar.remsi v184 c16_i32_136
  let c1_i32_141 : BitVec 32 := 1#32
  let v186 : BitVec 32 := Scalar.muli v185 c1_i32_141
  let v187 : BitVec 32 := Scalar.addi c0_i32_142 v186
  v187.toNat
def k0_dev20 (d0 : Dev nD) : Nat :=
  let c0_i32_155 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_147 : BitVec 32 := 5#32
  let v196 : BitVec 32 := Scalar.addi v2 c5_i32_147
  let c16_i32_148 : BitVec 32 := 16#32
  let v197 : BitVec 32 := Scalar.addi v196 c16_i32_148
  let c16_i32_149 : BitVec 32 := 16#32
  let v198 : BitVec 32 := Scalar.remsi v197 c16_i32_149
  let c1_i32_154 : BitVec 32 := 1#32
  let v199 : BitVec 32 := Scalar.muli v198 c1_i32_154
  let v200 : BitVec 32 := Scalar.addi c0_i32_155 v199
  v200.toNat
def k0_dev21 (d0 : Dev nD) : Nat :=
  let c0_i32_168 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_160 : BitVec 32 := 6#32
  let v209 : BitVec 32 := Scalar.addi v2 c6_i32_160
  let c16_i32_161 : BitVec 32 := 16#32
  let v210 : BitVec 32 := Scalar.addi v209 c16_i32_161
  let c16_i32_162 : BitVec 32 := 16#32
  let v211 : BitVec 32 := Scalar.remsi v210 c16_i32_162
  let c1_i32_167 : BitVec 32 := 1#32
  let v212 : BitVec 32 := Scalar.muli v211 c1_i32_167
  let v213 : BitVec 32 := Scalar.addi c0_i32_168 v212
  v213.toNat
def k0_dev22 (d0 : Dev nD) : Nat :=
  let c0_i32_181 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_173 : BitVec 32 := 7#32
  let v222 : BitVec 32 := Scalar.addi v2 c7_i32_173
  let c16_i32_174 : BitVec 32 := 16#32
  let v223 : BitVec 32 := Scalar.addi v222 c16_i32_174
  let c16_i32_175 : BitVec 32 := 16#32
  let v224 : BitVec 32 := Scalar.remsi v223 c16_i32_175
  let c1_i32_180 : BitVec 32 := 1#32
  let v225 : BitVec 32 := Scalar.muli v224 c1_i32_180
  let v226 : BitVec 32 := Scalar.addi c0_i32_181 v225
  v226.toNat
def k0_dev23 (d0 : Dev nD) : Nat :=
  let c0_i32_194 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_186 : BitVec 32 := 8#32
  let v235 : BitVec 32 := Scalar.addi v2 c8_i32_186
  let c16_i32_187 : BitVec 32 := 16#32
  let v236 : BitVec 32 := Scalar.addi v235 c16_i32_187
  let c16_i32_188 : BitVec 32 := 16#32
  let v237 : BitVec 32 := Scalar.remsi v236 c16_i32_188
  let c1_i32_193 : BitVec 32 := 1#32
  let v238 : BitVec 32 := Scalar.muli v237 c1_i32_193
  let v239 : BitVec 32 := Scalar.addi c0_i32_194 v238
  v239.toNat
def k0_dev24 (d0 : Dev nD) : Nat :=
  let c0_i32_207 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_199 : BitVec 32 := 9#32
  let v248 : BitVec 32 := Scalar.addi v2 c9_i32_199
  let c16_i32_200 : BitVec 32 := 16#32
  let v249 : BitVec 32 := Scalar.addi v248 c16_i32_200
  let c16_i32_201 : BitVec 32 := 16#32
  let v250 : BitVec 32 := Scalar.remsi v249 c16_i32_201
  let c1_i32_206 : BitVec 32 := 1#32
  let v251 : BitVec 32 := Scalar.muli v250 c1_i32_206
  let v252 : BitVec 32 := Scalar.addi c0_i32_207 v251
  v252.toNat
def k0_dev25 (d0 : Dev nD) : Nat :=
  let c0_i32_220 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_212 : BitVec 32 := 10#32
  let v261 : BitVec 32 := Scalar.addi v2 c10_i32_212
  let c16_i32_213 : BitVec 32 := 16#32
  let v262 : BitVec 32 := Scalar.addi v261 c16_i32_213
  let c16_i32_214 : BitVec 32 := 16#32
  let v263 : BitVec 32 := Scalar.remsi v262 c16_i32_214
  let c1_i32_219 : BitVec 32 := 1#32
  let v264 : BitVec 32 := Scalar.muli v263 c1_i32_219
  let v265 : BitVec 32 := Scalar.addi c0_i32_220 v264
  v265.toNat
def k0_dev26 (d0 : Dev nD) : Nat :=
  let c0_i32_233 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_225 : BitVec 32 := 11#32
  let v274 : BitVec 32 := Scalar.addi v2 c11_i32_225
  let c16_i32_226 : BitVec 32 := 16#32
  let v275 : BitVec 32 := Scalar.addi v274 c16_i32_226
  let c16_i32_227 : BitVec 32 := 16#32
  let v276 : BitVec 32 := Scalar.remsi v275 c16_i32_227
  let c1_i32_232 : BitVec 32 := 1#32
  let v277 : BitVec 32 := Scalar.muli v276 c1_i32_232
  let v278 : BitVec 32 := Scalar.addi c0_i32_233 v277
  v278.toNat
def k0_dev27 (d0 : Dev nD) : Nat :=
  let c0_i32_246 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_238 : BitVec 32 := 12#32
  let v287 : BitVec 32 := Scalar.addi v2 c12_i32_238
  let c16_i32_239 : BitVec 32 := 16#32
  let v288 : BitVec 32 := Scalar.addi v287 c16_i32_239
  let c16_i32_240 : BitVec 32 := 16#32
  let v289 : BitVec 32 := Scalar.remsi v288 c16_i32_240
  let c1_i32_245 : BitVec 32 := 1#32
  let v290 : BitVec 32 := Scalar.muli v289 c1_i32_245
  let v291 : BitVec 32 := Scalar.addi c0_i32_246 v290
  v291.toNat
def k0_dev28 (d0 : Dev nD) : Nat :=
  let c0_i32_259 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_251 : BitVec 32 := 13#32
  let v300 : BitVec 32 := Scalar.addi v2 c13_i32_251
  let c16_i32_252 : BitVec 32 := 16#32
  let v301 : BitVec 32 := Scalar.addi v300 c16_i32_252
  let c16_i32_253 : BitVec 32 := 16#32
  let v302 : BitVec 32 := Scalar.remsi v301 c16_i32_253
  let c1_i32_258 : BitVec 32 := 1#32
  let v303 : BitVec 32 := Scalar.muli v302 c1_i32_258
  let v304 : BitVec 32 := Scalar.addi c0_i32_259 v303
  v304.toNat
def k0_dev29 (d0 : Dev nD) : Nat :=
  let c0_i32_272 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_264 : BitVec 32 := 14#32
  let v313 : BitVec 32 := Scalar.addi v2 c14_i32_264
  let c16_i32_265 : BitVec 32 := 16#32
  let v314 : BitVec 32 := Scalar.addi v313 c16_i32_265
  let c16_i32_266 : BitVec 32 := 16#32
  let v315 : BitVec 32 := Scalar.remsi v314 c16_i32_266
  let c1_i32_271 : BitVec 32 := 1#32
  let v316 : BitVec 32 := Scalar.muli v315 c1_i32_271
  let v317 : BitVec 32 := Scalar.addi c0_i32_272 v316
  v317.toNat
def k0_dev30 (d0 : Dev nD) : Nat :=
  let c0_i32_285 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_277 : BitVec 32 := 15#32
  let v326 : BitVec 32 := Scalar.addi v2 c15_i32_277
  let c16_i32_278 : BitVec 32 := 16#32
  let v327 : BitVec 32 := Scalar.addi v326 c16_i32_278
  let c16_i32_279 : BitVec 32 := 16#32
  let v328 : BitVec 32 := Scalar.remsi v327 c16_i32_279
  let c1_i32_284 : BitVec 32 := 1#32
  let v329 : BitVec 32 := Scalar.muli v328 c1_i32_284
  let v330 : BitVec 32 := Scalar.addi c0_i32_285 v329
  v330.toNat
def k0_dev31 (d0 : Dev nD) : Nat :=
  let c0_i32_342 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_334 : BitVec 32 := 1#32
  let v384 : BitVec 32 := Scalar.addi v2 c1_i32_334
  let c16_i32_335 : BitVec 32 := 16#32
  let v385 : BitVec 32 := Scalar.addi v384 c16_i32_335
  let c16_i32_336 : BitVec 32 := 16#32
  let v386 : BitVec 32 := Scalar.remsi v385 c16_i32_336
  let c1_i32_341 : BitVec 32 := 1#32
  let v387 : BitVec 32 := Scalar.muli v386 c1_i32_341
  let v388 : BitVec 32 := Scalar.addi c0_i32_342 v387
  v388.toNat
def k0_dev32 (d0 : Dev nD) : Nat :=
  let c0_i32_355 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_347 : BitVec 32 := 2#32
  let v397 : BitVec 32 := Scalar.addi v2 c2_i32_347
  let c16_i32_348 : BitVec 32 := 16#32
  let v398 : BitVec 32 := Scalar.addi v397 c16_i32_348
  let c16_i32_349 : BitVec 32 := 16#32
  let v399 : BitVec 32 := Scalar.remsi v398 c16_i32_349
  let c1_i32_354 : BitVec 32 := 1#32
  let v400 : BitVec 32 := Scalar.muli v399 c1_i32_354
  let v401 : BitVec 32 := Scalar.addi c0_i32_355 v400
  v401.toNat
def k0_dev33 (d0 : Dev nD) : Nat :=
  let c0_i32_368 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_360 : BitVec 32 := 3#32
  let v410 : BitVec 32 := Scalar.addi v2 c3_i32_360
  let c16_i32_361 : BitVec 32 := 16#32
  let v411 : BitVec 32 := Scalar.addi v410 c16_i32_361
  let c16_i32_362 : BitVec 32 := 16#32
  let v412 : BitVec 32 := Scalar.remsi v411 c16_i32_362
  let c1_i32_367 : BitVec 32 := 1#32
  let v413 : BitVec 32 := Scalar.muli v412 c1_i32_367
  let v414 : BitVec 32 := Scalar.addi c0_i32_368 v413
  v414.toNat
def k0_dev34 (d0 : Dev nD) : Nat :=
  let c0_i32_419 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_411 : BitVec 32 := 4#32
  let v464 : BitVec 32 := Scalar.addi v2 c4_i32_411
  let c16_i32_412 : BitVec 32 := 16#32
  let v465 : BitVec 32 := Scalar.addi v464 c16_i32_412
  let c16_i32_413 : BitVec 32 := 16#32
  let v466 : BitVec 32 := Scalar.remsi v465 c16_i32_413
  let c1_i32_418 : BitVec 32 := 1#32
  let v467 : BitVec 32 := Scalar.muli v466 c1_i32_418
  let v468 : BitVec 32 := Scalar.addi c0_i32_419 v467
  v468.toNat
def k0_dev35 (d0 : Dev nD) : Nat :=
  let c0_i32_432 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_424 : BitVec 32 := 5#32
  let v477 : BitVec 32 := Scalar.addi v2 c5_i32_424
  let c16_i32_425 : BitVec 32 := 16#32
  let v478 : BitVec 32 := Scalar.addi v477 c16_i32_425
  let c16_i32_426 : BitVec 32 := 16#32
  let v479 : BitVec 32 := Scalar.remsi v478 c16_i32_426
  let c1_i32_431 : BitVec 32 := 1#32
  let v480 : BitVec 32 := Scalar.muli v479 c1_i32_431
  let v481 : BitVec 32 := Scalar.addi c0_i32_432 v480
  v481.toNat
def k0_dev36 (d0 : Dev nD) : Nat :=
  let c0_i32_445 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_437 : BitVec 32 := 6#32
  let v490 : BitVec 32 := Scalar.addi v2 c6_i32_437
  let c16_i32_438 : BitVec 32 := 16#32
  let v491 : BitVec 32 := Scalar.addi v490 c16_i32_438
  let c16_i32_439 : BitVec 32 := 16#32
  let v492 : BitVec 32 := Scalar.remsi v491 c16_i32_439
  let c1_i32_444 : BitVec 32 := 1#32
  let v493 : BitVec 32 := Scalar.muli v492 c1_i32_444
  let v494 : BitVec 32 := Scalar.addi c0_i32_445 v493
  v494.toNat
def k0_dev37 (d0 : Dev nD) : Nat :=
  let c0_i32_496 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_488 : BitVec 32 := 7#32
  let v544 : BitVec 32 := Scalar.addi v2 c7_i32_488
  let c16_i32_489 : BitVec 32 := 16#32
  let v545 : BitVec 32 := Scalar.addi v544 c16_i32_489
  let c16_i32_490 : BitVec 32 := 16#32
  let v546 : BitVec 32 := Scalar.remsi v545 c16_i32_490
  let c1_i32_495 : BitVec 32 := 1#32
  let v547 : BitVec 32 := Scalar.muli v546 c1_i32_495
  let v548 : BitVec 32 := Scalar.addi c0_i32_496 v547
  v548.toNat
def k0_dev38 (d0 : Dev nD) : Nat :=
  let c0_i32_509 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_501 : BitVec 32 := 8#32
  let v557 : BitVec 32 := Scalar.addi v2 c8_i32_501
  let c16_i32_502 : BitVec 32 := 16#32
  let v558 : BitVec 32 := Scalar.addi v557 c16_i32_502
  let c16_i32_503 : BitVec 32 := 16#32
  let v559 : BitVec 32 := Scalar.remsi v558 c16_i32_503
  let c1_i32_508 : BitVec 32 := 1#32
  let v560 : BitVec 32 := Scalar.muli v559 c1_i32_508
  let v561 : BitVec 32 := Scalar.addi c0_i32_509 v560
  v561.toNat
def k0_dev39 (d0 : Dev nD) : Nat :=
  let c0_i32_522 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_514 : BitVec 32 := 9#32
  let v570 : BitVec 32 := Scalar.addi v2 c9_i32_514
  let c16_i32_515 : BitVec 32 := 16#32
  let v571 : BitVec 32 := Scalar.addi v570 c16_i32_515
  let c16_i32_516 : BitVec 32 := 16#32
  let v572 : BitVec 32 := Scalar.remsi v571 c16_i32_516
  let c1_i32_521 : BitVec 32 := 1#32
  let v573 : BitVec 32 := Scalar.muli v572 c1_i32_521
  let v574 : BitVec 32 := Scalar.addi c0_i32_522 v573
  v574.toNat
def k0_dev40 (d0 : Dev nD) : Nat :=
  let c0_i32_573 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_565 : BitVec 32 := 10#32
  let v624 : BitVec 32 := Scalar.addi v2 c10_i32_565
  let c16_i32_566 : BitVec 32 := 16#32
  let v625 : BitVec 32 := Scalar.addi v624 c16_i32_566
  let c16_i32_567 : BitVec 32 := 16#32
  let v626 : BitVec 32 := Scalar.remsi v625 c16_i32_567
  let c1_i32_572 : BitVec 32 := 1#32
  let v627 : BitVec 32 := Scalar.muli v626 c1_i32_572
  let v628 : BitVec 32 := Scalar.addi c0_i32_573 v627
  v628.toNat
def k0_dev41 (d0 : Dev nD) : Nat :=
  let c0_i32_586 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_578 : BitVec 32 := 11#32
  let v637 : BitVec 32 := Scalar.addi v2 c11_i32_578
  let c16_i32_579 : BitVec 32 := 16#32
  let v638 : BitVec 32 := Scalar.addi v637 c16_i32_579
  let c16_i32_580 : BitVec 32 := 16#32
  let v639 : BitVec 32 := Scalar.remsi v638 c16_i32_580
  let c1_i32_585 : BitVec 32 := 1#32
  let v640 : BitVec 32 := Scalar.muli v639 c1_i32_585
  let v641 : BitVec 32 := Scalar.addi c0_i32_586 v640
  v641.toNat
def k0_dev42 (d0 : Dev nD) : Nat :=
  let c0_i32_599 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_591 : BitVec 32 := 12#32
  let v650 : BitVec 32 := Scalar.addi v2 c12_i32_591
  let c16_i32_592 : BitVec 32 := 16#32
  let v651 : BitVec 32 := Scalar.addi v650 c16_i32_592
  let c16_i32_593 : BitVec 32 := 16#32
  let v652 : BitVec 32 := Scalar.remsi v651 c16_i32_593
  let c1_i32_598 : BitVec 32 := 1#32
  let v653 : BitVec 32 := Scalar.muli v652 c1_i32_598
  let v654 : BitVec 32 := Scalar.addi c0_i32_599 v653
  v654.toNat
def k0_dev43 (d0 : Dev nD) : Nat :=
  let c0_i32_650 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_642 : BitVec 32 := 13#32
  let v704 : BitVec 32 := Scalar.addi v2 c13_i32_642
  let c16_i32_643 : BitVec 32 := 16#32
  let v705 : BitVec 32 := Scalar.addi v704 c16_i32_643
  let c16_i32_644 : BitVec 32 := 16#32
  let v706 : BitVec 32 := Scalar.remsi v705 c16_i32_644
  let c1_i32_649 : BitVec 32 := 1#32
  let v707 : BitVec 32 := Scalar.muli v706 c1_i32_649
  let v708 : BitVec 32 := Scalar.addi c0_i32_650 v707
  v708.toNat
def k0_dev44 (d0 : Dev nD) : Nat :=
  let c0_i32_663 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_655 : BitVec 32 := 14#32
  let v717 : BitVec 32 := Scalar.addi v2 c14_i32_655
  let c16_i32_656 : BitVec 32 := 16#32
  let v718 : BitVec 32 := Scalar.addi v717 c16_i32_656
  let c16_i32_657 : BitVec 32 := 16#32
  let v719 : BitVec 32 := Scalar.remsi v718 c16_i32_657
  let c1_i32_662 : BitVec 32 := 1#32
  let v720 : BitVec 32 := Scalar.muli v719 c1_i32_662
  let v721 : BitVec 32 := Scalar.addi c0_i32_663 v720
  v721.toNat
def k0_dev45 (d0 : Dev nD) : Nat :=
  let c0_i32_676 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_668 : BitVec 32 := 15#32
  let v730 : BitVec 32 := Scalar.addi v2 c15_i32_668
  let c16_i32_669 : BitVec 32 := 16#32
  let v731 : BitVec 32 := Scalar.addi v730 c16_i32_669
  let c16_i32_670 : BitVec 32 := 16#32
  let v732 : BitVec 32 := Scalar.remsi v731 c16_i32_670
  let c1_i32_675 : BitVec 32 := 1#32
  let v733 : BitVec 32 := Scalar.muli v732 c1_i32_675
  let v734 : BitVec 32 := Scalar.addi c0_i32_676 v733
  v734.toNat
abbrev stage0_0 : Fin 1 → Memref sig .tc .vmem S512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x32 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S8192x256 : Shape := ⟨2, ![8192, 256]⟩
abbrev S256x32 : Shape := ⟨2, ![256, 32]⟩
abbrev S8192x1 : Shape := ⟨2, ![8192, 1]⟩
abbrev S32x256x512 : Shape := ⟨3, ![32, 256, 512]⟩
abbrev S256x512 : Shape := ⟨2, ![256, 512]⟩
abbrev S8192x32 : Shape := ⟨2, ![8192, 32]⟩
abbrev S_ : Shape := ⟨0, ![]⟩
abbrev S8192 : Shape := ⟨1, ![8192]⟩
abbrev S8192x512 : Shape := ⟨2, ![8192, 512]⟩
abbrev S8192x1x1 : Shape := ⟨3, ![8192, 1, 1]⟩
abbrev S1 : Shape := ⟨1, ![1]⟩
abbrev S1x1x1 : Shape := ⟨3, ![1, 1, 1]⟩
abbrev S8192x256x512 : Shape := ⟨3, ![8192, 256, 512]⟩

abbrev nBuf : Space → Nat
  | .hbm => 58
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S256x32, .bf16⟩
  | .hbm, ⟨2, _⟩ => ⟨S8192x1, .i32⟩
  | .hbm, ⟨3, _⟩ => ⟨S32x256x512, .bf16⟩
  | .hbm, ⟨4, _⟩ => ⟨S256x512, .bf16⟩
  | .hbm, ⟨5, _⟩ => ⟨S8192x256, .f32⟩
  | .hbm, ⟨6, _⟩ => ⟨S256x32, .f32⟩
  | .hbm, ⟨7, _⟩ => ⟨S32x256x512, .f32⟩
  | .hbm, ⟨8, _⟩ => ⟨S256x512, .f32⟩
  | .hbm, ⟨9, _⟩ => ⟨S8192x32, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S8192x32, .f32⟩
  | .hbm, ⟨14, _⟩ => ⟨S8192x32, .f32⟩
  | .hbm, ⟨15, _⟩ => ⟨S8192x32, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S8192x32, .f32⟩
  | .hbm, ⟨20, _⟩ => ⟨S8192x32, .f32⟩
  | .hbm, ⟨21, _⟩ => ⟨S8192x512, .f32⟩
  | .hbm, ⟨22, _⟩ => ⟨S_, .i32⟩
  | .hbm, ⟨23, _⟩ => ⟨S8192x1, .i32⟩
  | .hbm, ⟨24, _⟩ => ⟨S8192x1, .i1⟩
  | .hbm, ⟨25, _⟩ => ⟨S_, .i32⟩
  | .hbm, ⟨26, _⟩ => ⟨S8192x1, .i32⟩
  | .hbm, ⟨27, _⟩ => ⟨S8192x1, .i32⟩
  | .hbm, ⟨28, _⟩ => ⟨S8192x1, .i32⟩
  | .hbm, ⟨29, _⟩ => ⟨S8192x1x1, .i32⟩
  | .hbm, ⟨30, _⟩ => ⟨S1, .i32⟩
  | .hbm, ⟨31, _⟩ => ⟨S_, .i32⟩
  | .hbm, ⟨32, _⟩ => ⟨S8192x1x1, .i32⟩
  | .hbm, ⟨33, _⟩ => ⟨S8192x1x1, .i1⟩
  | .hbm, ⟨34, _⟩ => ⟨S1x1x1, .i32⟩
  | .hbm, ⟨35, _⟩ => ⟨S8192x1x1, .i32⟩
  | .hbm, ⟨36, _⟩ => ⟨S8192x1x1, .i1⟩
  | .hbm, ⟨37, _⟩ => ⟨S8192x1x1, .i1⟩
  | .hbm, ⟨38, _⟩ => ⟨S_, .i1⟩
  | .hbm, ⟨39, _⟩ => ⟨S8192x1, .i1⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S8192, .i32⟩
  | .hbm, ⟨45, _⟩ => ⟨S_, .i32⟩
  | .hbm, ⟨46, _⟩ => ⟨S8192, .i32⟩
  | .hbm, ⟨47, _⟩ => ⟨S8192, .i1⟩
  | .hbm, ⟨48, _⟩ => ⟨S_, .i32⟩
  | .hbm, ⟨49, _⟩ => ⟨S8192, .i32⟩
  | .hbm, ⟨50, _⟩ => ⟨S8192, .i32⟩
  | .hbm, ⟨51, _⟩ => ⟨S8192, .i32⟩
  | .hbm, ⟨52, _⟩ => ⟨S8192x1, .i32⟩
  | .hbm, ⟨53, _⟩ => ⟨S8192x256x512, .f32⟩
  | .hbm, ⟨54, _⟩ => ⟨S8192x512, .f32⟩
  | .hbm, ⟨55, _⟩ => ⟨S8192x512, .f32⟩
  | .hbm, ⟨56, _⟩ => ⟨S8192x512, .f32⟩
  | .hbm, ⟨57, _⟩ => ⟨S8192x512, .f32⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_c : Ref sig .tc := ⟨.hbm, 22, rfl⟩
abbrev main_call0_v0 : Ref sig .tc := ⟨.hbm, 23, rfl⟩
abbrev main_call0_v1 : Ref sig .tc := ⟨.hbm, 24, rfl⟩
abbrev main_call0_c_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_c_1 : Ref sig .tc := ⟨.hbm, 30, rfl⟩
abbrev main_call0_c_2 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_3 : Ref sig .tc := ⟨.hbm, 38, rfl⟩
abbrev main_call0_v12 : Ref sig .tc := ⟨.hbm, 39, rfl⟩
abbrev main_call0_v13 : Ref sig .tc := ⟨.hbm, 40, rfl⟩
abbrev main_call0_cst : Ref sig .tc := ⟨.hbm, 41, rfl⟩
abbrev main_call0_v14 : Ref sig .tc := ⟨.hbm, 42, rfl⟩
abbrev main_v15 : Ref sig .tc := ⟨.hbm, 43, rfl⟩
abbrev main_v16 : Ref sig .tc := ⟨.hbm, 44, rfl⟩
abbrev main_c : Ref sig .tc := ⟨.hbm, 45, rfl⟩
abbrev main_v17 : Ref sig .tc := ⟨.hbm, 46, rfl⟩
abbrev main_v18 : Ref sig .tc := ⟨.hbm, 47, rfl⟩
abbrev main_c_1 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩

abbrev nD : Nat := 1
abbrev τ : Topo := Topo.v7x

variable {F : FTy → Type} [FloatOps F]
-- ==== Proof.Contents.lean ====
/-
# What the kernel's buffers hold

The mesh's peers, the kernel's memrefs, and the contents of every buffer of the exchange as functions of the
launch memory: the dispatch rows each device packs, what lands in each device's dispatch buffer, the answers each
device computes, what lands in each device's response buffer, and the block of results it stores. All of them are
compositions of the skeleton's payload functions.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.ValueLayout
public import Idealize.ShloMosaic.Lib.Tactic

@[expose] public section

noncomputable section

namespace Cert.Moe

open Cert.KernelIdeal Cert.KernelIdeal.Gen

open Idealize.ShloMosaic
open Idealize.ShloMosaic.TcCoe
open Idealize.ShloMosaic.ValueIdx
open Idealize.SL Idealize.SL.RA Idealize.SL.BI

variable {F : FTy → Type} [FloatOps F]

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Peers -/

/-- Device `c`'s peer number `k`: the device `k + 1` places after it on the ring of sixteen. -/
def peer (c : Dev nD) (k : Fin 15) : Dev nD := ⟨(c.val + k.val + 1) % 16, Nat.mod_lt _ (by decide)⟩

/-- The number a device has among its peer's peers. -/
def opp (k : Fin 15) : Fin 15 := ⟨14 - k.val, by omega⟩

theorem peer_opp (c : Dev nD) (k : Fin 15) : peer (peer c k) (opp k) = c := by
  have h : c.val < 16 := c.isLt
  apply Fin.ext; simp only [peer, opp]; omega

theorem peer_peer_opp (c : Dev nD) (k : Fin 15) : peer (peer c (opp k)) k = c := by
  have h : c.val < 16 := c.isLt
  apply Fin.ext; simp only [peer, opp]; omega

theorem opp_opp (k : Fin 15) : opp (opp k) = k := by
  apply Fin.ext; simp only [opp]; omega

theorem opp_mk {j : ℕ} (hj : j < 15) (h : 14 - j < 15) : opp ⟨j, hj⟩ = ⟨14 - j, h⟩ := rfl

/-! ## The memrefs -/

abbrev xM : Memref sig .tc .vmem S512x256 .bf16 := Memref.whole cc0_stg0_0
abbrev rwM : Memref sig .tc .vmem S256x32 .bf16 := Memref.whole cc0_stg1_0
abbrev idxM : Memref sig .tc .vmem S512x1 .i32 := Memref.whole cc0_stg2_0
abbrev ewM : Memref sig .tc .vmem S2x256x512 .bf16 := Memref.whole cc0_stg3_0
abbrev swM : Memref sig .tc .vmem S256x512 .bf16 := Memref.whole cc0_stg4_0
abbrev oM : Memref sig .tc .vmem S512x512 .f32 := Memref.whole cc0_stg5_0
abbrev sbM : Memref sig .tc .vmem S15x64x384 .fp8e4m3 := Memref.whole cc0_scratch0
abbrev dispM : Memref sig .tc .vmem S15x64x384 .fp8e4m3 := Memref.whole cc0_scratch1
abbrev rsM : Memref sig .tc .vmem S15x64x512 .fp8e4m3 := Memref.whole cc0_scratch2
abbrev respM : Memref sig .tc .vmem S15x64x512 .fp8e4m3 := Memref.whole cc0_scratch3

/-! ## The inputs' blocks -/

def xv (c : Dev nD) : Vec F S512x256 .bf16 :=
  (win0_0.blk (0 : Fin 1)).view.read (Elt F) ((s₀ m ρ).mem ((c : Thread nD τ).loc main_arg0))
def rwv (c : Dev nD) : Vec F S256x32 .bf16 :=
  (win0_1.blk (0 : Fin 1)).view.read (Elt F) ((s₀ m ρ).mem ((c : Thread nD τ).loc main_arg1))
def idxv (c : Dev nD) : Vec F S512x1 .i32 :=
  (win0_2.blk (0 : Fin 1)).view.read (Elt F) ((s₀ m ρ).mem ((c : Thread nD τ).loc main_arg2))
def ewv (c : Dev nD) : Vec F S2x256x512 .bf16 :=
  (win0_3.blk (0 : Fin 1)).view.read (Elt F) ((s₀ m ρ).mem ((c : Thread nD τ).loc main_arg3))
def swv (c : Dev nD) : Vec F S256x512 .bf16 :=
  (win0_4.blk (0 : Fin 1)).view.read (Elt F) ((s₀ m ρ).mem ((c : Thread nD τ).loc main_arg4))

/-! ## The kernel's values -/

/-- The device's number as the kernel computes it. -/
def me (c : Dev nD) : BitVec 32 := Scalar.remsi (Scalar.divsi (Dev.word c) 1#32) 16#32
/-- The tokens' destinations. -/
def destv (c : Dev nD) : IVec S512x1 32 := k0_pay2 (F := F) (idxv m ρ c)
/-- The tokens' experts at their destinations, as floats. -/
def elv (c : Dev nD) : FVec F S512x1 .f32 := k0_pay3 (idxv m ρ c)
def xcv (c : Dev nD) : FVec F S512x256 .bf16 := k0_pay4 (xv m ρ c)
/-- The tokens' slots at their destinations. -/
def slotv (c : Dev nD) : FVec F S512x1 .f32 := k0_pay5 (idxv m ρ c)
/-- The one-hot matrix of tokens against the slots of every peer. -/
def ohv (c : Dev nD) : FVec F S512x960 .bf16 :=
  k0_pay9 (destv m ρ c) (slotv m ρ c) k0_pay6 k0_pay7 (k0_pay8 (me c))
/-- The two experts' weights held here. -/
def ew0v (c : Dev nD) : FVec F S256x512 .bf16 :=
  k0_pay12 (fun i : S1x256x512.Idx => ewv m ρ c (ix3 (⟨0, by decide⟩ : Fin 2) (i 1) (i 2)))
def ew1v (c : Dev nD) : FVec F S256x512 .bf16 :=
  k0_pay13 (fun i : S1x256x512.Idx => ewv m ρ c (ix3 (⟨1, by decide⟩ : Fin 2) (i 1) (i 2)))

/-- The packed dispatch rows' first 256 columns, the tokens' features; -/
def sbA (c : Dev nD) : FVec F S15x64x256 .fp8e4m3 :=
  k0_pay10 (destv m ρ c) (xcv m ρ c) (slotv m ρ c) k0_pay6 k0_pay7 (k0_pay8 (me c))
/-- their last 128 columns, the tokens' experts. -/
def sbB (c : Dev nD) : FVec F S15x64x128 .fp8e4m3 :=
  k0_pay11 (destv m ρ c) (elv m ρ c) (slotv m ρ c) k0_pay6 k0_pay7 (k0_pay8 (me c))

/-- The dispatch buffer device `c` sends from. -/
def sb (c : Dev nD) : S15x64x384.Idx → Elt F .fp8e4m3 := fun i =>
  if h : (i 2).val < 256 then sbA m ρ c (ix3 (i 0) (i 1) (⟨(i 2).val, h⟩ : Fin 256))
  else sbB m ρ c (ix3 (i 0) (i 1) (⟨(i 2).val - 256, by have h2 : (i 2).val < 384 := (i 2).isLt; omega⟩ : Fin 128))

/-- Device `c`'s dispatch buffer once everything has landed: slot `k` holds what peer `k` packed for `c`. -/
def disp (c : Dev nD) : S15x64x384.Idx → Elt F .fp8e4m3 := fun i =>
  sb m ρ (peer c (i 0)) (ix3 (opp (i 0)) (i 1) (i 2))

/-- Three consecutive slots of an array of fifteen, from slot `3 b`. -/
def three {α : Type} {w : ℕ} (f : (⟨3, ![15, 64, w]⟩ : Shape).Idx → α) (b : ℕ) (hb : b < 5) : (⟨3, ![3, 64, w]⟩ : Shape).Idx → α :=
  fun i => f (ix3 (⟨3 * b + (i 0).val, by have h : (i 0).val < 3 := (i 0).isLt; omega⟩ : Fin 15) (i 1) (i 2))

/-- The answers device `c` computes for its peers, three slots at a time. -/
def rs (c : Dev nD) : S15x64x512.Idx → Elt F .fp8e4m3 := fun i =>
  k0_pay14 (ew0v m ρ c) (ew1v m ρ c)
    (three (disp m ρ c) ((i 0).val / 3) (by have h : (i 0).val < 15 := (i 0).isLt; omega))
    (ix3 (⟨(i 0).val % 3, Nat.mod_lt _ (by decide)⟩ : Fin 3) (i 1) (i 2))

/-- Device `c`'s response buffer once everything has landed. -/
def resp (c : Dev nD) : S15x64x512.Idx → Elt F .fp8e4m3 := fun i =>
  rs m ρ (peer c (i 0)) (ix3 (opp (i 0)) (i 1) (i 2))

/-- The gate probability of each token's expert. -/
def pv (c : Dev nD) : FVec F S512x1 .f32 := k0_pay24 (k0_pay1 (F := F) (idxv m ρ c)) (xv m ρ c) (rwv m ρ c)

/-- The answers for the tokens that stay, before and after masking; -/
def locv (c : Dev nD) : FVec F S512x512 .f32 := k0_pay25 (elv m ρ c) (xcv m ρ c) (ew0v m ρ c) (ew1v m ρ c)
def acc0 (c : Dev nD) : FVec F S512x512 .f32 := k0_pay26 (me c) (destv m ρ c) (locv m ρ c)
/-- and the answers gathered so far, after each batch of three peers. -/
def acc1 (c : Dev nD) : FVec F S512x512 .f32 := k0_pay27 (ohv m ρ c) (acc0 m ρ c) (three (resp m ρ c) 0 (by decide))
def acc2 (c : Dev nD) : FVec F S512x512 .f32 := k0_pay28 (ohv m ρ c) (acc1 m ρ c) (three (resp m ρ c) 1 (by decide))
def acc3 (c : Dev nD) : FVec F S512x512 .f32 := k0_pay29 (ohv m ρ c) (acc2 m ρ c) (three (resp m ρ c) 2 (by decide))
def acc4 (c : Dev nD) : FVec F S512x512 .f32 := k0_pay30 (ohv m ρ c) (acc3 m ρ c) (three (resp m ρ c) 3 (by decide))

/-- The block of results device `c` stores. -/
def outv (c : Dev nD) : FVec F S512x512 .f32 :=
  k0_pay31 (xcv m ρ c) (ohv m ρ c) (pv m ρ c) (acc4 m ρ c) (three (resp m ρ c) 4 (by decide)) (swv m ρ c)

end Cert.Moe

end
-- ==== Proof.Proto.lean ====
/-
# The exchange's protocol

One round on each of a device's sixty-one semaphores. The barrier has fifteen duties of one unit, one per peer: the
peer's signal hands over the slots of ITS dispatch and response buffers this device is to fill. Each of the fifteen
dispatch-send, dispatch-receive, response-send and response-receive semaphores has one duty of a slot's credit, with
the slot sent from or landed in as its payload.
-/
module

public import proofs.«01_k».proof.Proof.Contents

@[expose] public section

noncomputable section

namespace Cert.Moe

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) (Fin 15)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The cells -/

/-- The runtime's barrier semaphore of collective id 0. -/
abbrev barS : Sem sig := (SemArray.scalar (sig.barrier 0 rfl) : Sems sig S_).sem
/-- The `j`-th semaphore of the `a`-th of the four arrays: dispatch send, dispatch receive, response send, response
    receive. -/
def dsem (a : Fin 4) (j : Fin 15) : DmaSem sig :=
  ⟨6 + 15 * a.val + j.val, by show _ < 66; omega⟩

abbrev barCell (c : Dev nD) : GSem nD τ sig := ((c : Thread nD τ), .reg barS)
abbrev dcell (a : Fin 4) (c : Dev nD) (j : Fin 15) : GSem nD τ sig := ((c : Thread nD τ), .dma (dsem a j))

/-- Which array a DMA semaphore lies in, and its place there. -/
def arrOf (q : DmaSem sig) : ℕ := (q.val - 6) / 15
def posOf (q : DmaSem sig) : Fin 15 := ⟨(q.val - 6) % 15, Nat.mod_lt _ (by decide)⟩

theorem arrOf_dsem (a : Fin 4) (j : Fin 15) : arrOf (dsem a j) = a.val := by unfold arrOf dsem; dsimp only; omega
theorem posOf_dsem (a : Fin 4) (j : Fin 15) : posOf (dsem a j) = j := by
  apply Fin.ext; unfold posOf dsem; dsimp only; omega

/-- The cells of one device: the barrier, then the four arrays'. -/
abbrev CI : Type := Unit ⊕ (Fin 4 × Fin 15)
def csem : CI → SemLoc sig := fun | .inl _ => .reg barS | .inr q => .dma (dsem q.1 q.2)
def kcell (ck : Dev nD × CI) : GSem nD τ sig := ((ck.1 : Thread nD τ), csem ck.2)

/-- A consecutive array of fifteen semaphores sliced at place `j` and squeezed names its `j`-th. -/
theorem slice_sem (base : ℕ) (h : base + S15.numel ≤ 66) (j : ℕ) (inb) :
    (((SemArray.consecutive base S15 h : DmaSems sig S15).slice (Rect.unit (s := S15) ![j] S1.size inb)).squeeze S_ squeezes_S1_S_).sem.val = base + j := by
  show base + (S15.rowMajor _).val = base + j
  rw [Shape.rowMajor_val_one]
  generalize (Shape.reshapeEquiv _ _ : S1.Idx) = y
  have hy : (y 0).val < 1 := (y 0).isLt
  show base + (j + 1 * (y 0).val) = base + j
  omega

/-- The kernel reaches a semaphore by slicing its array at the literal place. -/
theorem sem4_eq (j : ℕ) (hj : j < 15) (inb) :
    ((cc0_scratch4.slice (Rect.unit (s := S15) ![j] S1.size inb)).squeeze S_ squeezes_S1_S_).sem = dsem 0 ⟨j, hj⟩ :=
  Fin.ext (slice_sem 6 _ j inb)
theorem sem5_eq (j : ℕ) (hj : j < 15) (inb) :
    ((cc0_scratch5.slice (Rect.unit (s := S15) ![j] S1.size inb)).squeeze S_ squeezes_S1_S_).sem = dsem 1 ⟨j, hj⟩ :=
  Fin.ext (slice_sem 21 _ j inb)
theorem sem6_eq (j : ℕ) (hj : j < 15) (inb) :
    ((cc0_scratch6.slice (Rect.unit (s := S15) ![j] S1.size inb)).squeeze S_ squeezes_S1_S_).sem = dsem 2 ⟨j, hj⟩ :=
  Fin.ext (slice_sem 36 _ j inb)
theorem sem7_eq (j : ℕ) (hj : j < 15) (inb) :
    ((cc0_scratch7.slice (Rect.unit (s := S15) ![j] S1.size inb)).squeeze S_ squeezes_S1_S_).sem = dsem 3 ⟨j, hj⟩ :=
  Fin.ext (slice_sem 51 _ j inb)

/-! ## Slots of the four buffers -/

/-- The rows `lo ≤ i < hi` of an array of fifteen slots. -/
def rows (w lo hi : ℕ) : Finset (⟨3, ![15, 64, w]⟩ : Shape).Idx :=
  Finset.univ.filter fun i => lo ≤ (i 0).val ∧ (i 0).val < hi

theorem mem_rows {w lo hi : ℕ} {i : (⟨3, ![15, 64, w]⟩ : Shape).Idx} : i ∈ rows w lo hi ↔ lo ≤ (i 0).val ∧ (i 0).val < hi := by
  unfold rows; rw [Finset.mem_filter]; exact ⟨fun h => h.2, fun h => ⟨Finset.mem_univ _, h⟩⟩

theorem rows_union {w a b d : ℕ} (h₁ : a ≤ b) (h₂ : b ≤ d) : rows w a d = rows w a b ∪ rows w b d := by
  ext i; rw [Finset.mem_union, mem_rows, mem_rows, mem_rows]; omega
theorem rows_disjoint {w a b d : ℕ} : Disjoint (rows w a b) (rows w b d) :=
  Finset.disjoint_left.mpr fun i h h' => by rw [mem_rows] at h h'; omega
theorem rows_self (w a : ℕ) : rows w a a = ∅ := by
  ext i; rw [mem_rows]; constructor
  · intro h; omega
  · intro h; exact absurd h (Finset.notMem_empty i)
theorem rows_all (w : ℕ) : rows w 0 15 = Finset.univ := by
  ext i; rw [mem_rows]; exact ⟨fun _ => Finset.mem_univ _, fun _ => ⟨Nat.zero_le _, (i 0).isLt⟩⟩

/-- One slot of an array of fifteen, as the kernel slices it. -/
abbrev slotM {w : ℕ} {e : EltTy} (M : Memref sig .tc .vmem ⟨3, ![15, 64, w]⟩ e) (j : ℕ)
    (inb : ∀ a, (![j, 0, 0] : Fin 3 → Nat) a + (⟨3, ![1, 64, w]⟩ : Shape).size a ≤ (⟨3, ![15, 64, w]⟩ : Shape).size a)
    (hq : (⟨3, ![1, 64, w]⟩ : Shape).Squeezes ⟨2, ![64, w]⟩) : Memref sig .tc .vmem ⟨2, ![64, w]⟩ e :=
  (M.slice (Rect.unit (s := ⟨3, ![15, 64, w]⟩) ![j, 0, 0] (⟨3, ![1, 64, w]⟩ : Shape).size inb) (fun _ => rfl)).squeeze ⟨2, ![64, w]⟩ hq

theorem rect_rows {w j n : ℕ} (inb) :
    (Rect.unit (s := ⟨3, ![15, 64, w]⟩) ![j, 0, 0] (⟨3, ![n, 64, w]⟩ : Shape).size inb).set = rows w j (j + n) := by
  ext i
  rw [Rect.mem_set_unit, mem_rows]
  constructor
  · intro h; exact h 0
  · intro h a
    match a with
    | ⟨0, _⟩ => exact h
    | ⟨1, _⟩ => exact ⟨Nat.zero_le _, by have := (i 1).isLt; exact lt_of_lt_of_eq this (Nat.zero_add _).symm⟩
    | ⟨2, _⟩ => exact ⟨Nat.zero_le _, by have := (i 2).isLt; exact lt_of_lt_of_eq this (Nat.zero_add _).symm⟩

/-- A slot's element `(a, b)` lies at `(j, a, b)`. -/
theorem rect_emb {w j n : ℕ} (inb) (x : (⟨3, ![n, 64, w]⟩ : Shape).Idx) (h : j + (x 0).val < 15) :
    (Rect.unit (s := ⟨3, ![15, 64, w]⟩) ![j, 0, 0] (⟨3, ![n, 64, w]⟩ : Shape).size inb).emb x = ix3 (⟨j + (x 0).val, h⟩ : Fin 15) (x 1) (x 2) := by
  funext a
  match a with
  | ⟨0, _⟩ => apply Fin.ext; show j + 1 * (x 0).val = j + (x 0).val; omega
  | ⟨1, _⟩ => apply Fin.ext; show 0 + 1 * (x 1).val = (x 1).val; omega
  | ⟨2, _⟩ => apply Fin.ext; show 0 + 1 * (x 2).val = (x 2).val; omega

abbrev hq384 : (⟨3, ![1, 64, 384]⟩ : Shape).Squeezes ⟨2, ![64, 384]⟩ := squeezes_S1x64x384_S64x384
abbrev hq512 : (⟨3, ![1, 64, 512]⟩ : Shape).Squeezes ⟨2, ![64, 512]⟩ := squeezes_S1x64x512_S64x512

/-- A slot's credit, for the two sizes of slot. -/
def N1 : ℕ := (dispM.slice (Rect.unit (s := S15x64x384) ![0, 0, 0] S1x64x384.size inb_S15x64x384_S1x64x384_0_0_0) (fun _ => rfl) |>.squeeze S64x384 hq384).view.dmaCredit
def N2 : ℕ := (respM.slice (Rect.unit (s := S15x64x512) ![0, 0, 0] S1x64x512.size inb_S15x64x512_S1x64x512_0_0_0) (fun _ => rfl) |>.squeeze S64x512 hq512).view.dmaCredit
theorem N1_pos : 0 < N1 := View.dmaCredit_pos _ (by decide)
theorem N2_pos : 0 < N2 := View.dmaCredit_pos _ (by decide)

/-- Ownership of some elements of one of a device's buffers. -/
abbrev pts (c : Dev nD) (b : Ref sig .tc) (S : Finset (Idx ((c : Thread nD τ).loc b))) (f : Buf (Elt F) ((c : Thread nD τ).loc b)) : sProp 𝕄 :=
  ((c : Thread nD τ).loc b) ↦[S]{fullShare} f

/-- The rows `lo ≤ i < hi` of each of the four buffers. -/
def sbP (c : Dev nD) (lo hi : ℕ) (f : S15x64x384.Idx → Elt F .fp8e4m3) : sProp 𝕄 := pts c cc0_scratch0 (rows 384 lo hi) f
def dispP (c : Dev nD) (lo hi : ℕ) (f : S15x64x384.Idx → Elt F .fp8e4m3) : sProp 𝕄 := pts c cc0_scratch1 (rows 384 lo hi) f
def rsP (c : Dev nD) (lo hi : ℕ) (f : S15x64x512.Idx → Elt F .fp8e4m3) : sProp 𝕄 := pts c cc0_scratch2 (rows 512 lo hi) f
def respP (c : Dev nD) (lo hi : ℕ) (f : S15x64x512.Idx → Elt F .fp8e4m3) : sProp 𝕄 := pts c cc0_scratch3 (rows 512 lo hi) f

omit [FloatOps F] in
instance sbP_storable (c : Dev nD) (lo hi f) : BI.Storable (upEmb : UEmb _ 𝕄) (sbP (F := F) c lo hi f) := by unfold sbP; infer_instance
omit [FloatOps F] in
instance dispP_storable (c : Dev nD) (lo hi f) : BI.Storable (upEmb : UEmb _ 𝕄) (dispP (F := F) c lo hi f) := by unfold dispP; infer_instance
omit [FloatOps F] in
instance rsP_storable (c : Dev nD) (lo hi f) : BI.Storable (upEmb : UEmb _ 𝕄) (rsP (F := F) c lo hi f) := by unfold rsP; infer_instance
omit [FloatOps F] in
instance respP_storable (c : Dev nD) (lo hi f) : BI.Storable (upEmb : UEmb _ 𝕄) (respP (F := F) c lo hi f) := by unfold respP; infer_instance

/-! ## The schedule -/

/-- The slots of a device's dispatch and response buffers one peer is to fill. -/
def landD (c : Dev nD) (j : Fin 15) : sProp 𝕄 := iprop(∃ f, dispP (F := F) c j.val (j.val + 1) f)
def landR (c : Dev nD) (j : Fin 15) : sProp 𝕄 := iprop(∃ f, respP (F := F) c j.val (j.val + 1) f)

/-- What peer `k`'s signal hands device `c`. -/
def barPay (c : Dev nD) (k : Fin 15) : sProp 𝕄 := iprop(landD (peer c k) (opp k) ∗ landR (peer c k) (opp k))
/-- The slot a transfer's completion hands over. -/
def xferPay (a : ℕ) (c : Dev nD) (j : Fin 15) : sProp 𝕄 :=
  match a with
  | 0 => sbP c j.val (j.val + 1) (sb m ρ c)
  | 1 => dispP c j.val (j.val + 1) (disp m ρ c)
  | 2 => rsP c j.val (j.val + 1) (rs m ρ c)
  | _ => respP c j.val (j.val + 1) (resp m ρ c)

omit [FloatOps F] in
instance barPay_storable (c : Dev nD) (k : Fin 15) : BI.Storable (upEmb : UEmb _ 𝕄) (barPay (F := F) c k) := by
  unfold barPay landD landR; infer_instance
instance xferPay_storable (a : ℕ) (c : Dev nD) (j : Fin 15) : BI.Storable (upEmb : UEmb _ 𝕄) (xferPay (F := F) m ρ a c j) := by
  unfold xferPay; split <;> infer_instance

def amt (a : ℕ) : ℕ := if a < 2 then N1 else N2
theorem amt_pos (a : ℕ) : 0 < amt a := by unfold amt; split; exacts [N1_pos, N2_pos]

def Rd : Rounds.Schedule (GSem nD τ sig) (Fin 15) 𝕄 where
  duties g r := if r = 0 then (match g.2 with | .reg _ => Finset.univ | .dma _ => {0}) else ∅
  unitless _ := False
  amount g _ _ := match g.2 with | .reg _ => 1 | .dma q => amt (arrOf q)
  payload g _ d := match g.2 with | .reg _ => barPay g.1.1 d | .dma q => xferPay m ρ (arrOf q) g.1.1 (posOf q)
  amount_pos g _ _ _ := by
    rcases g with ⟨t, _ | q⟩
    · exact Nat.one_pos
    · exact amt_pos _

instance Rd_payload_storable (g : GSem nD τ sig) (r : ℕ) (d : Fin 15) :
    BI.Storable (upEmb : UEmb _ 𝕄) ((Rd (F := F) m ρ).payload g r d) := by
  show BI.Storable upEmb (match g.2 with | .reg _ => barPay g.1.1 d | .dma q => xferPay m ρ (arrOf q) g.1.1 (posOf q))
  split <;> infer_instance

section Sched
variable (c : Dev nD) (a : Fin 4) (j : Fin 15)

theorem duties_bar : (Rd (F := F) m ρ).duties (barCell c) 0 = Finset.univ := rfl
theorem duties_dma : (Rd (F := F) m ρ).duties (dcell a c j) 0 = {0} := rfl
theorem duties_later (g : GSem nD τ sig) : ∀ r, 1 ≤ r → (Rd (F := F) m ρ).duties g r = ∅ :=
  fun r hr => by dsimp only [Rd]; exact if_neg fun h => by omega
theorem amount_bar (d : Fin 15) : (Rd (F := F) m ρ).amount (barCell c) 0 d = 1 := rfl
theorem amount_dma (d : Fin 15) : (Rd (F := F) m ρ).amount (dcell a c j) 0 d = amt a.val := by
  show amt (arrOf (dsem a j)) = _; rw [arrOf_dsem]
theorem expect_bar : (Rd (F := F) m ρ).expect (barCell c) 0 = 15 := by
  unfold Schedule.expect Schedule.amountOf
  rw [duties_bar, Finset.sum_congr rfl fun d _ => amount_bar m ρ c d, Finset.sum_const, Finset.card_univ, Fintype.card_fin, smul_eq_mul]
theorem expect_dma : (Rd (F := F) m ρ).expect (dcell a c j) 0 = amt a.val := by
  unfold Schedule.expect Schedule.amountOf; rw [duties_dma, Finset.sum_singleton, amount_dma]
theorem payload_bar (d : Fin 15) : (Rd (F := F) m ρ).payload (barCell c) 0 d = barPay c d := rfl
theorem payload_dma (d : Fin 15) : (Rd (F := F) m ρ).payload (dcell a c j) 0 d = xferPay m ρ a.val c j := by
  show xferPay m ρ (arrOf (dsem a j)) c (posOf (dsem a j)) = _; rw [arrOf_dsem, posOf_dsem]
/-- The whole of the barrier's round: every peer's hand-over. -/
theorem rest_bar : bigSep ((Rd (F := F) m ρ).duties (barCell c) 0 \ ∅) (fun d => (Rd (F := F) m ρ).payload (barCell c) 0 d)
    = bigSep Finset.univ (fun d => barPay c d) := by
  rw [Finset.sdiff_empty, duties_bar]; rfl
/-- The whole of a transfer's round: its slot. -/
theorem rest_dma : bigSep ((Rd (F := F) m ρ).duties (dcell a c j) 0 \ ∅) (fun d => (Rd (F := F) m ρ).payload (dcell a c j) 0 d)
    = xferPay m ρ a.val c j := by
  rw [Finset.sdiff_empty, duties_dma, bigSep_singleton, payload_dma]

end Sched

/-! ## What each core owes; the levels -/

/-- What a device still owes before its signal `sg`, its dispatch `ds` and its answer `rs'`. -/
def owed (c : Dev nD) (sg ds rs' : ℕ) : CellTallies nD τ sig Unit :=
  (∑ j ∈ Finset.univ.filter (fun j : Fin 15 => rs' ≤ j.val), tallyAt (dcell 3 (peer c j) (opp j)) () N2)
  + (∑ j ∈ Finset.univ.filter (fun j : Fin 15 => ds ≤ j.val), tallyAt (dcell 1 (peer c j) (opp j)) () N1)
  + (∑ j ∈ Finset.univ.filter (fun j : Fin 15 => sg ≤ j.val), tallyAt (barCell (peer c j)) () 1)

theorem filter_peel {M : Type} [AddCommMonoid M] (f : Fin 15 → M) (n : ℕ) (h : n < 15) :
    ∑ j ∈ Finset.univ.filter (fun j : Fin 15 => n ≤ j.val), f j
      = ∑ j ∈ Finset.univ.filter (fun j : Fin 15 => n + 1 ≤ j.val), f j + f ⟨n, h⟩ := by
  have e : Finset.univ.filter (fun j : Fin 15 => n ≤ j.val) = insert ⟨n, h⟩ (Finset.univ.filter (fun j : Fin 15 => n + 1 ≤ j.val)) := by
    ext j; simp only [Finset.mem_filter, Finset.mem_univ, true_and, Finset.mem_insert, Fin.ext_iff]; omega
  rw [e, Finset.sum_insert (by simp), add_comm]

theorem filter_none {M : Type} [AddCommMonoid M] (f : Fin 15 → M) :
    ∑ j ∈ Finset.univ.filter (fun j : Fin 15 => 15 ≤ j.val), f j = 0 := by
  rw [Finset.filter_false_of_mem fun j _ => by omega, Finset.sum_empty]

theorem owed_sg (c : Dev nD) (sg ds rs' : ℕ) (h : sg < 15) :
    owed c sg ds rs' = owed c (sg + 1) ds rs' + tallyAt (barCell (peer c ⟨sg, h⟩)) () 1 := by
  unfold owed; rw [filter_peel _ sg h, add_assoc, add_assoc, add_assoc]
theorem owed_ds (c : Dev nD) (sg ds rs' : ℕ) (h : ds < 15) :
    owed c sg ds rs' = owed c sg (ds + 1) rs' + tallyAt (dcell 1 (peer c ⟨ds, h⟩) (opp ⟨ds, h⟩)) () N1 := by
  unfold owed; rw [filter_peel _ ds h]; rw [← add_assoc, add_right_comm]
theorem owed_rs (c : Dev nD) (sg ds rs' : ℕ) (h : rs' < 15) :
    owed c sg ds rs' = owed c sg ds (rs' + 1) + tallyAt (dcell 3 (peer c ⟨rs', h⟩) (opp ⟨rs', h⟩)) () N2 := by
  unfold owed; rw [filter_peel _ rs' h]; rw [add_right_comm _ _ (∑ j ∈ Finset.univ.filter (fun j : Fin 15 => ds ≤ j.val), _), add_right_comm]
theorem owed_done (c : Dev nD) : owed c 15 15 15 = 0 := by
  unfold owed; rw [filter_none, filter_none, filter_none, add_zero, add_zero]

theorem sum_tally_pos {f : Fin 15 → GSem nD τ sig} {n k : ℕ} {g : GSem nD τ sig} {u : Unit}
    (h : 0 < (∑ j ∈ Finset.univ.filter (fun j : Fin 15 => n ≤ j.val), (tallyAt (f j) () k : CellTallies nD τ sig Unit)) g u) :
    ∃ j : Fin 15, n ≤ j.val ∧ g = f j := by
  rw [Finset.sum_apply, Finsupp.finset_sum_apply] at h
  obtain ⟨j, hj, hp⟩ := Finset.exists_ne_zero_of_sum_ne_zero (Nat.pos_iff_ne_zero.mp h)
  refine ⟨j, (Finset.mem_filter.mp hj).2, ?_⟩
  rw [tallyAt_apply] at hp
  by_contra hne
  exact hp (if_neg fun h' => hne h'.1)

theorem owed_pos {c : Dev nD} {sg ds rs' : ℕ} {g : GSem nD τ sig} {u : Unit} (h : 0 < owed c sg ds rs' g u) :
    (∃ j : Fin 15, rs' ≤ j.val ∧ g = dcell 3 (peer c j) (opp j)) ∨ (∃ j : Fin 15, ds ≤ j.val ∧ g = dcell 1 (peer c j) (opp j))
      ∨ (∃ j : Fin 15, sg ≤ j.val ∧ g = barCell (peer c j)) := by
  unfold owed at h
  rw [Pi.add_apply, Finsupp.add_apply, Pi.add_apply, Finsupp.add_apply] at h
  by_contra hn
  rw [not_or, not_or] at hn
  rcases Nat.add_pos_iff_pos_or_pos.mp h with h | h
  · rcases Nat.add_pos_iff_pos_or_pos.mp h with h | h
    · exact hn.1 (sum_tally_pos h)
    · exact hn.2.1 (sum_tally_pos h)
  · exact hn.2.2 (sum_tally_pos h)

def L (g : GSem nD τ sig) : Finset Unit := if g.1.2 = .tc then {()} else ∅
/-- Barriers at 1, dispatch receives at 2, response receives at 3, everything else at 0. -/
def lv (g : GSem nD τ sig) (_ : Unit) : ℕ :=
  match g.2 with | .reg _ => 1 | .dma q => if arrOf q = 1 then 2 else if arrOf q = 3 then 3 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := rfl
theorem lv_dma (a : Fin 4) (c : Dev nD) (j : Fin 15) : lv (dcell a c j) () = if a.val = 1 then 2 else if a.val = 3 then 3 else 0 := by
  show (if arrOf (dsem a j) = 1 then 2 else if arrOf (dsem a j) = 3 then 3 else 0) = _; rw [arrOf_dsem]

/-- A device may wait at a cell below everything it still owes. -/
theorem mayWait_owed (c : Dev nD) (sm : SemLoc sig) (sg ds rs' : ℕ)
    (h1 : sg < 15 → lv ((c : Thread nD τ), sm) () < 1) (h2 : ds < 15 → lv ((c : Thread nD τ), sm) () < 2)
    (h3 : rs' < 15 → lv ((c : Thread nD τ), sm) () < 3) :
    (levAts L lv : sProp 𝕄) ⊢ MayWait (c : Thread nD τ) sm () (owed c sg ds rs') :=
  MayOwe.of_cut (L := L) (lev := lv) (lv ((c : Thread nD τ), sm) ())
    (fun p hp => by rw [Finset.mem_singleton.mp hp, L_tc]; exact Finset.mem_singleton_self _)
    (fun g u hg => by rcases owed_pos hg with ⟨j, _, rfl⟩ | ⟨j, _, rfl⟩ | ⟨j, _, rfl⟩ <;> exact Finset.mem_singleton_self _)
    (fun p hp => by rw [Finset.mem_singleton.mp hp])
    (fun g u hg => by
      rcases owed_pos hg with ⟨j, hj, rfl⟩ | ⟨j, hj, rfl⟩ | ⟨j, hj, rfl⟩
      · have := h3 (lt_of_le_of_lt hj j.isLt); rw [lv_dma]; exact this
      · have := h2 (lt_of_le_of_lt hj j.isLt); rw [lv_dma]; exact this
      · have := h1 (lt_of_le_of_lt hj j.isLt); rw [lv_bar]; exact this)

abbrev 𝒱₀ : Variants := Variants.none

end Cert.Moe

end
-- ==== Proof.State.lean ====
/-
# The state of one device between two operations of the kernel

One assertion over counters: how many signals, sends and waits of each kind have been made, how many batches of answers
have been stored, whether the dispatch rows and the result are stored. Each operation moves one counter.
-/
module

public import proofs.«01_k».proof.Proof.Proto

@[expose] public section

noncomputable section

namespace Cert.Moe

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Ranges of peers -/

/-- The conjunction over the peers numbered `lo ≤ j < hi`. -/
def win (lo hi : ℕ) (Φ : Fin 15 → sProp 𝕄) : sProp 𝕄 :=
  bigSep (Finset.univ.filter fun j : Fin 15 => lo ≤ j.val ∧ j.val < hi) Φ

omit [FloatOps F] in
theorem win_first (lo hi : ℕ) (Φ : Fin 15 → sProp 𝕄) (h : lo < 15) (h' : lo < hi) :
    win lo hi Φ = iprop(Φ ⟨lo, h⟩ ∗ win (lo + 1) hi Φ) := by
  unfold win
  rw [show Finset.univ.filter (fun j : Fin 15 => lo ≤ j.val ∧ j.val < hi)
      = insert ⟨lo, h⟩ (Finset.univ.filter fun j : Fin 15 => lo + 1 ≤ j.val ∧ j.val < hi) by
    ext j; simp only [Finset.mem_filter, Finset.mem_univ, true_and, Finset.mem_insert, Fin.ext_iff]; omega]
  exact bigSep_insert (by simp)

omit [FloatOps F] in
theorem win_last (lo hi : ℕ) (Φ : Fin 15 → sProp 𝕄) (h : hi < 15) (h' : lo ≤ hi) :
    win lo (hi + 1) Φ = iprop(Φ ⟨hi, h⟩ ∗ win lo hi Φ) := by
  unfold win
  rw [show Finset.univ.filter (fun j : Fin 15 => lo ≤ j.val ∧ j.val < hi + 1)
      = insert ⟨hi, h⟩ (Finset.univ.filter fun j : Fin 15 => lo ≤ j.val ∧ j.val < hi) by
    ext j; simp only [Finset.mem_filter, Finset.mem_univ, true_and, Finset.mem_insert, Fin.ext_iff]; omega]
  exact bigSep_insert (by simp)

omit [FloatOps F] in
theorem win_none (a : ℕ) (Φ : Fin 15 → sProp 𝕄) : win a a Φ = iprop(emp) := by
  unfold win
  rw [Finset.filter_false_of_mem fun j _ => by omega]
  exact bigSep_empty

omit [FloatOps F] in
theorem win_all (Φ : Fin 15 → sProp 𝕄) : win 0 15 Φ = bigSep Finset.univ Φ := by
  unfold win
  rw [Finset.filter_true_of_mem fun j _ => ⟨Nat.zero_le _, j.isLt⟩]

/-! ## Rows of a buffer -/

section Rows
variable (c : Dev nD) {w : ℕ}
omit [FloatOps F] in
theorem sbP_split {a b d : ℕ} (h₁ : a ≤ b) (h₂ : b ≤ d) (f) : sbP (F := F) c a d f = iprop(sbP c a b f ∗ sbP c b d f) := by
  unfold sbP pts; rw [rows_union h₁ h₂]
  have h := (pointsTo_union (Ix := Unit) (Name := ℕ) (U := UU) (Lvl := ℕ) (ℓ := (c : Thread nD τ).loc cc0_scratch0) (I := rows 384 a b) (J := rows 384 b d) (q := fullShare) (f := f) rows_disjoint)
  exact equiv_iff.mp ⟨h.1, h.2⟩
omit [FloatOps F] in
theorem dispP_split {a b d : ℕ} (h₁ : a ≤ b) (h₂ : b ≤ d) (f) : dispP (F := F) c a d f = iprop(dispP c a b f ∗ dispP c b d f) := by
  unfold dispP pts; rw [rows_union h₁ h₂]
  have h := (pointsTo_union (Ix := Unit) (Name := ℕ) (U := UU) (Lvl := ℕ) (ℓ := (c : Thread nD τ).loc cc0_scratch1) (I := rows 384 a b) (J := rows 384 b d) (q := fullShare) (f := f) rows_disjoint)
  exact equiv_iff.mp ⟨h.1, h.2⟩
omit [FloatOps F] in
theorem rsP_split {a b d : ℕ} (h₁ : a ≤ b) (h₂ : b ≤ d) (f) : rsP (F := F) c a d f = iprop(rsP c a b f ∗ rsP c b d f) := by
  unfold rsP pts; rw [rows_union h₁ h₂]
  have h := (pointsTo_union (Ix := Unit) (Name := ℕ) (U := UU) (Lvl := ℕ) (ℓ := (c : Thread nD τ).loc cc0_scratch2) (I := rows 512 a b) (J := rows 512 b d) (q := fullShare) (f := f) rows_disjoint)
  exact equiv_iff.mp ⟨h.1, h.2⟩
omit [FloatOps F] in
theorem respP_split {a b d : ℕ} (h₁ : a ≤ b) (h₂ : b ≤ d) (f) : respP (F := F) c a d f = iprop(respP c a b f ∗ respP c b d f) := by
  unfold respP pts; rw [rows_union h₁ h₂]
  have h := (pointsTo_union (Ix := Unit) (Name := ℕ) (U := UU) (Lvl := ℕ) (ℓ := (c : Thread nD τ).loc cc0_scratch3) (I := rows 512 a b) (J := rows 512 b d) (q := fullShare) (f := f) rows_disjoint)
  exact equiv_iff.mp ⟨h.1, h.2⟩
omit [FloatOps F] in
theorem sbP_none (a f) : sbP (F := F) c a a f = iprop(emp) := by unfold sbP pts; rw [rows_self]; exact pointsTo_empty
omit [FloatOps F] in
theorem dispP_none (a f) : dispP (F := F) c a a f = iprop(emp) := by unfold dispP pts; rw [rows_self]; exact pointsTo_empty
omit [FloatOps F] in
theorem rsP_none (a f) : rsP (F := F) c a a f = iprop(emp) := by unfold rsP pts; rw [rows_self]; exact pointsTo_empty
omit [FloatOps F] in
theorem respP_none (a f) : respP (F := F) c a a f = iprop(emp) := by unfold respP pts; rw [rows_self]; exact pointsTo_empty
end Rows

/-! ## The cells' records -/

/-- Every cell's invariant, and that every cell has reached round 0. -/
def records (K : Dev nD × CI → ℕ) : sProp 𝕄 :=
  bigSep Finset.univ (fun ck : Dev nD × CI => iprop(cellInv ER (Rd (F := F) m ρ) (K ck) (kcell ck) ∗ reached ER (kcell ck) 0))

instance records_persistent (K : Dev nD × CI → ℕ) : BI.Persistent (records (F := F) m ρ K) := by unfold records; infer_instance

theorem records_at (K : Dev nD × CI → ℕ) (ck : Dev nD × CI) :
    records (F := F) m ρ K ⊢ iprop(cellInv ER (Rd (F := F) m ρ) (K ck) (kcell ck) ∗ reached ER (kcell ck) 0) :=
  bigSep_elim (Finset.mem_univ ck)

/-- What everything may use at any time. -/
def ctx (K : Dev nD × CI → ℕ) : sProp 𝕄 := iprop(records m ρ K ∗ levAts L lv)
instance ctx_persistent (K : Dev nD × CI → ℕ) : BI.Persistent (ctx (F := F) m ρ K) := by unfold ctx; infer_instance

/-! ## The pieces of the state -/

section Pieces
variable (c : Dev nD)

def owesW (sg ds rs' : ℕ) : sProp 𝕄 := iprop(∃ W, owes (c : Thread nD τ) (owed c sg ds rs') W)
/-- The slots of the two landing buffers not yet handed to the peers. -/
def dispAny (n : ℕ) : sProp 𝕄 := iprop(∃ f, dispP (F := F) c n 15 f)
def respAny (n : ℕ) : sProp 𝕄 := iprop(∃ f, respP (F := F) c n 15 f)
def tokB (j : Fin 15) : sProp 𝕄 := dutyTok ER (barCell (peer c j)) 0 (opp j)
/-- What a send pays with: its own duty and the receiver's. -/
def tokX (a b : Fin 4) (j : Fin 15) : sProp 𝕄 :=
  iprop(dutyTok ER (dcell a c j) 0 (0 : Fin 15) ∗ dutyTok ER (dcell b (peer c j) (opp j)) 0 (0 : Fin 15))
def landDat (j : Fin 15) : sProp 𝕄 := landD (F := F) (peer c j) (opp j)
def landRat (j : Fin 15) : sProp 𝕄 := landR (F := F) (peer c j) (opp j)
/-- A cell closed; a cell at its round; credit for a cell. -/
def zeroAt (a : Fin 4) (j : Fin 15) : sProp 𝕄 := semVal (dcell a c j) 0
def posAt (a : Fin 4) (j : Fin 15) : sProp 𝕄 := atPos ER (dcell a c j) 0 (∅ : Finset (Fin 15)) 0
def credAt (a : Fin 4) (j : Fin 15) : sProp 𝕄 := cred (tallyAt (dcell a c j) () (amt a.val))
/-- The barrier's cell before (`0`) and after the wait. -/
def barSt : ℕ → sProp 𝕄
  | 0 => iprop(atPos ER (barCell c) 0 (∅ : Finset (Fin 15)) 0 ∗ cred (tallyAt (barCell c) () 15))
  | _ + 1 => semVal (barCell c) 0
/-- The send buffer before and after the rows are packed. -/
def sbSt (ds s1 : ℕ) : ℕ → sProp 𝕄
  | 0 => iprop(∃ f, sbP (F := F) c 0 15 f)
  | _ + 1 => iprop(sbP c ds 15 (sb m ρ c) ∗ sbP c 0 s1 (sb m ρ c))
def rsAny (rb : ℕ) : sProp 𝕄 := iprop(∃ f, rsP (F := F) c (3 * rb) 15 f)
/-- A buffer whole. -/
abbrev whole (b : Ref sig .tc) (f : Buf (Elt F) ((c : Thread nD τ).loc b)) : sProp 𝕄 := ((c : Thread nD τ).loc b) ↦{fullShare} f
def insP : sProp 𝕄 :=
  iprop(whole c cc0_stg0_0 (xv m ρ c) ∗ whole c cc0_stg1_0 (rwv m ρ c) ∗ whole c cc0_stg2_0 (idxv m ρ c)
    ∗ whole c cc0_stg3_0 (ewv m ρ c) ∗ whole c cc0_stg4_0 (swv m ρ c))
def outSt : ℕ → sProp 𝕄
  | 0 => iprop(∃ f, whole (F := F) c cc0_stg5_0 f)
  | _ + 1 => whole c cc0_stg5_0 (outv m ρ c)

/-- The state: `sg` signals made; the barrier waited (`bw = 15`) or not (`0`); `ds`, `rs'` dispatch rows and answers
    sent; `dw`, `rw` received; `s1`, `s2` sends of each kind waited; the dispatch rows packed (`pk`); `rb` batches of
    answers stored; the result stored (`ob`). -/
def St (K : Dev nD × CI → ℕ) (sg bw ds dw rs' rw s1 s2 pk rb ob : ℕ) : sProp 𝕄 :=
  iprop(ctx m ρ K ∗ owesW c sg ds rs' ∗ dispAny c sg ∗ respAny c sg ∗ win sg 15 (tokB c) ∗ barSt c bw
    ∗ win ds bw (landDat c) ∗ win rs' bw (landRat c)
    ∗ win ds 15 (tokX c 0 1) ∗ win 0 s1 (zeroAt c 0) ∗ win s1 15 (posAt c 0) ∗ win s1 ds (credAt c 0)
    ∗ win 0 dw (zeroAt c 1) ∗ win dw 15 (posAt c 1) ∗ win dw 15 (credAt c 1) ∗ dispP c 0 dw (disp m ρ c)
    ∗ win rs' 15 (tokX c 2 3) ∗ win 0 s2 (zeroAt c 2) ∗ win s2 15 (posAt c 2) ∗ win s2 rs' (credAt c 2)
    ∗ win 0 rw (zeroAt c 3) ∗ win rw 15 (posAt c 3) ∗ win rw 15 (credAt c 3) ∗ respP c 0 rw (resp m ρ c)
    ∗ sbSt m ρ c ds s1 pk ∗ rsAny c rb ∗ rsP c rs' (3 * rb) (rs m ρ c) ∗ rsP c 0 s2 (rs m ρ c)
    ∗ insP m ρ c ∗ outSt m ρ c ob)

/-- Device `c`'s run of a piece of the kernel. -/
abbrev WP {α : Type} (prog : Prog (TpuEff nD τ sig (Elt F) Λ₀ .tc) α) (Q : α → sProp 𝕄) : sProp 𝕄 :=
  wp frame (wpE (defs₀ (F := F)) 𝒱₀ (c : Thread nD τ) none) Set.univ prog Q

end Pieces

/-! ## The signals and the barrier -/

section Steps
variable (K : Dev nD × CI → ℕ) (c : Dev nD)

theorem ctx_at (ck : Dev nD × CI) :
    ctx (F := F) m ρ K ⊢ iprop(cellInv ER (Rd (F := F) m ρ) (K ck) (kcell ck) ∗ reached ER (kcell ck) 0) := by
  unfold ctx; iintro ⟨HI, -⟩; iapply (records_at m ρ K ck); iexact HI

theorem ctx_wait (sm : SemLoc sig) (sg ds rs' : ℕ)
    (h1 : sg < 15 → lv ((c : Thread nD τ), sm) () < 1) (h2 : ds < 15 → lv ((c : Thread nD τ), sm) () < 2)
    (h3 : rs' < 15 → lv ((c : Thread nD τ), sm) () < 3) :
    ctx (F := F) m ρ K ⊢ MayWait (c : Thread nD τ) sm () (owed c sg ds rs') := by
  unfold ctx; iintro ⟨-, HL⟩; iapply (mayWait_owed c sm sg ds rs' h1 h2 h3); iexact HL

/-- The `j`-th signal hands peer `j` this device's slots `j`. -/
theorem step_signal (j : ℕ) (hj : j < 15) {n : Dev nD} (hn : n = peer c ⟨j, hj⟩)
    {α : Type} {Q : α → sProp 𝕄} {k : PUnit → Prog (TpuEff nD τ sig (Elt F) Λ₀ .tc) α}
    (h : St m ρ c K (j + 1) 0 0 0 0 0 0 0 0 0 0 ⊢ WP c (k ⟨⟩) Q) :
    St m ρ c K j 0 0 0 0 0 0 0 0 0 0 ⊢ WP c (.op (.semSignal (n, .tc) barS (1#32 : BitVec 32).toInt) k) Q := by
  subst hn
  unfold St owesW dispAny respAny
  iintro ⟨#Hctx, ⟨%W, HO⟩, ⟨%fd, Hd⟩, ⟨%fr, Hr⟩, Htok, HR⟩
  ihave ⟨Ht, Htok⟩ := (Entails.of_eq (win_first j 15 _ hj hj)) $$ Htok
  ihave ⟨Hd, Hd'⟩ := (Entails.of_eq (dispP_split c (Nat.le_succ j) hj fd)) $$ Hd
  ihave ⟨Hr, Hr'⟩ := (Entails.of_eq (respP_split c (Nat.le_succ j) hj fr)) $$ Hr
  ihave HO := (Entails.of_eq (congrArg (fun O => owes (c : Thread nD τ) O W) (owed_sg c j 0 0 hj))) $$ HO
  ihave ⟨#HIb, #HRb⟩ := (ctx_at m ρ K (peer c ⟨j, hj⟩, .inl ())) $$ Hctx
  iapply (Rounds.wp_signal 𝒱₀ ER (Rd m ρ) (c : Thread nD τ) none (dst := (peer c ⟨j, hj⟩ : Thread nD τ)) (κ := K (peer c ⟨j, hj⟩, .inl ()))
      (d := opp ⟨j, hj⟩) (by rw [duties_bar]; exact Finset.mem_univ _) ((amount_bar m ρ (peer c ⟨j, hj⟩) _).trans (by decide)) ()
      (owed c (j + 1) 0 0) rfl) $$ [HO Ht Hd Hr]
  · isplitr; · iexact HIb
    isplitl [HO]; · iexact HO
    isplitl [Ht]; · unfold tokB; iexact Ht
    isplitl [Hd Hr]
    · rw [payload_bar]; unfold barPay landD landR; rw [peer_opp, opp_opp]
      isplitl [Hd]
      · iexists fd; iexact Hd
      · iexists fr; iexact Hr
    · iexact HRb
  iintro HO
  iapply h
  unfold St owesW dispAny respAny
  iframe
  isplitr; · iexact Hctx
  isplitl [HO]; · iexists W; iexact HO
  isplitl [Hd']; · iexists fd; iexact Hd'
  iexists fr; iexact Hr'

/-- The wait on the barrier brings every peer's hand-over. -/
theorem step_barrier {α : Type} {Q : α → sProp 𝕄} {k : PUnit → Prog (TpuEff nD τ sig (Elt F) Λ₀ .tc) α}
    (h : St m ρ c K 15 15 0 0 0 0 0 0 0 0 0 ⊢ WP c (k ⟨⟩) Q) :
    St m ρ c K 15 0 0 0 0 0 0 0 0 0 0 ⊢ WP c (.op (.semWait barS (15#32 : BitVec 32).toInt) k) Q := by
  unfold St owesW
  iintro ⟨#Hctx, ⟨%W, HO⟩, Hd, Hr, Htok, Hb, HlD, HlR, HR⟩
  unfold barSt
  icases Hb with ⟨Hat, Hcr⟩
  ihave ⟨#HIb, #HRb⟩ := (ctx_at m ρ K (c, .inl ())) $$ Hctx
  iapply (Rounds.wp_wait_rest_token 𝒱₀ ER (Rd m ρ) (c : Thread nD τ) none (κ := K (c, .inl ()))
      (wpE_semWait_eq 𝒱₀ (c : Thread nD τ) none Set.univ) (Set.mem_univ _) () (O := owed c 15 0 0) (W := W) (R := 0) (m := 0) (T := ∅)
      (by rw [expect_bar]; decide)) $$ [Hcr HO Hat]
  · isplitr; · iexact HIb
    isplitl [Hcr]; · iexact Hcr
    isplitl [HO]; · iexact HO
    isplitr
    · iapply (ctx_wait m ρ K c (.reg barS) 15 0 0 (fun h => absurd h (lt_irrefl _)) (fun _ => by rw [lv_bar]; decide) (fun _ => by rw [lv_bar]; decide))
      iexact Hctx
    iexact Hat
  iintro ⟨HO, Hat, -, Hpay⟩
  imod (Rounds.cell_close ER (Rd m ρ) (Set.mem_univ (K (c, .inl ()))) (fun h => h) (R := 0 + 1) (duties_later m ρ (barCell c))) $$ [Hat] with Hz
  · isplitr; · iexact HIb
    iexact Hat
  ihave Hpay := (Entails.of_eq ((rest_bar m ρ c).trans (bigSep_sep' _ _ _))) $$ Hpay
  icases Hpay with ⟨HpD, HpR⟩
  ihave HpD := (Entails.of_eq (show bigSep Finset.univ (fun d : Fin 15 => landD (F := F) (peer c d) (opp d)) = win 0 15 (fun j => landDat c j) from (win_all _).symm)) $$ HpD
  ihave HpR := (Entails.of_eq (show bigSep Finset.univ (fun d : Fin 15 => landR (F := F) (peer c d) (opp d)) = win 0 15 (fun j => landRat c j) from (win_all _).symm)) $$ HpR
  iclear HlD; iclear HlR
  iapply h
  unfold St owesW barSt
  iframe
  isplitr; · iexact Hctx
  iexists _; iexact HO

end Steps

end Cert.Moe

end
-- ==== Proof.Sends.lean ====
/-
# The transfers: each send, each wait

A send of slot `j` takes the slot of the source, the peer's slot it lands in and the two duties, and leaves the credit
for its own completion. A wait takes that credit, or the arrival's, and gives the slot back.
-/
module

public import proofs.«01_k».proof.Proof.State

@[expose] public section

noncomputable section

namespace Cert.Moe

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Slots -/

/-- Row `j` lies in an array of fifteen. -/
abbrev InB (w j : ℕ) : Prop := ∀ a, (![j, 0, 0] : Fin 3 → Nat) a + (⟨3, ![1, 64, w]⟩ : Shape).size a ≤ (⟨3, ![15, 64, w]⟩ : Shape).size a

/-- A slot's view reaches element `(a, b)` of row `j`. -/
theorem slot_emb {w : ℕ} {e : EltTy} (M : Memref sig .tc .vmem ⟨3, ![15, 64, w]⟩ e) (j : ℕ) (inb hq) (hj : j < 15)
    (a : Fin 64) (b : Fin w) : (slotM M j inb hq).view.emb (ix2 a b) = M.view.emb (ix3 (⟨j, hj⟩ : Fin 15) a b) := by
  show M.view.emb ((Rect.unit (s := ⟨3, ![15, 64, w]⟩) ![j, 0, 0] (⟨3, ![1, 64, w]⟩ : Shape).size inb).emb (Shape.reshapeEquiv _ (ix2 a b))) = _
  rw [reshapeEquiv_ix2_1ab, rect_emb inb _ (by show j + 0 < 15; omega)]
  rfl

/-- A slot of a whole array is the array's row. -/
theorem slot_set_sb (j : ℕ) (inb) : (slotM sbM j inb hq384).view.set = rows 384 j (j + 1) :=
  (View.set_reshape _ _).trans ((View.set_slice_whole _ _).trans (rect_rows inb))
theorem slot_set_disp (j : ℕ) (inb) : (slotM dispM j inb hq384).view.set = rows 384 j (j + 1) :=
  (View.set_reshape _ _).trans ((View.set_slice_whole _ _).trans (rect_rows inb))
theorem slot_set_rs (j : ℕ) (inb) : (slotM rsM j inb hq512).view.set = rows 512 j (j + 1) :=
  (View.set_reshape _ _).trans ((View.set_slice_whole _ _).trans (rect_rows inb))
theorem slot_set_resp (j : ℕ) (inb) : (slotM respM j inb hq512).view.set = rows 512 j (j + 1) :=
  (View.set_reshape _ _).trans ((View.set_slice_whole _ _).trans (rect_rows inb))

/-! Row `opp j` of the peer's buffer, holding this device's row `j`, is that buffer's final row. -/

theorem disp_row (c : Dev nD) (j : ℕ) (hj : j < 15) (a : Fin 64) (b : Fin 384) :
    disp m ρ (peer c ⟨j, hj⟩) (ix3 (opp ⟨j, hj⟩) a b) = sb m ρ c (ix3 (⟨j, hj⟩ : Fin 15) a b) := by
  show sb m ρ (peer (peer c ⟨j, hj⟩) (opp ⟨j, hj⟩)) (ix3 (opp (opp ⟨j, hj⟩)) a b) = _
  rw [peer_opp, opp_opp]

theorem disp_write (j : ℕ) (hj : j < 15) (inb : InB 384 j) (fd : S15x64x384.Idx → Elt F .fp8e4m3) (v : S64x384.Idx → Elt F .fp8e4m3)
    (a : Fin 64) (b : Fin 384) :
    (slotM dispM j inb hq384).view.write (Elt F) fd v Finset.univ (ix3 (⟨j, hj⟩ : Fin 15) a b) = v (ix2 a b) :=
  (congrArg ((slotM dispM j inb hq384).view.write (Elt F) fd v Finset.univ) (slot_emb dispM j inb hq384 hj a b).symm).trans
    (View.write_emb_of_mem (v := (slotM dispM j inb hq384).view) fd v (Finset.mem_univ (ix2 a b)))

theorem sb_read (j : ℕ) (hj : j < 15) (inb : InB 384 j) (f : S15x64x384.Idx → Elt F .fp8e4m3) (a : Fin 64) (b : Fin 384) :
    (slotM sbM j inb hq384).view.read (Elt F) f (ix2 a b) = f (ix3 (⟨j, hj⟩ : Fin 15) a b) :=
  congrArg f (slot_emb sbM j inb hq384 hj a b)

theorem disp_lands (c : Dev nD) (j : ℕ) (hj : j < 15) (inb : InB 384 (14 - j)) (inb' : InB 384 j) (fd : S15x64x384.Idx → Elt F .fp8e4m3) :
    ∀ i ∈ rows 384 (14 - j) (14 - j + 1),
      (slotM dispM (14 - j) inb hq384).view.write (Elt F) fd ((slotM sbM j inb' hq384).view.read (Elt F) (sb m ρ c)) Finset.univ i
        = disp m ρ (peer c ⟨j, hj⟩) i := by
  intro i hi
  rw [mem_rows] at hi
  obtain ⟨p, a, b, rfl⟩ : ∃ (p : Fin 15) (a : Fin 64) (b : Fin 384), i = ix3 p a b := ⟨i 0, i 1, i 2, eq_ix3 i⟩
  have hp : p = opp ⟨j, hj⟩ := Fin.ext (by show p.val = 14 - j; have h : 14 - j ≤ p.val ∧ p.val < 14 - j + 1 := hi; omega)
  subst hp
  exact (disp_write (14 - j) (by omega) inb fd _ a b).trans ((sb_read j hj inb' (sb m ρ c) a b).trans (disp_row m ρ c j hj a b).symm)

theorem resp_row (c : Dev nD) (j : ℕ) (hj : j < 15) (a : Fin 64) (b : Fin 512) :
    resp m ρ (peer c ⟨j, hj⟩) (ix3 (opp ⟨j, hj⟩) a b) = rs m ρ c (ix3 (⟨j, hj⟩ : Fin 15) a b) := by
  show rs m ρ (peer (peer c ⟨j, hj⟩) (opp ⟨j, hj⟩)) (ix3 (opp (opp ⟨j, hj⟩)) a b) = _
  rw [peer_opp, opp_opp]

theorem resp_write (j : ℕ) (hj : j < 15) (inb : InB 512 j) (fd : S15x64x512.Idx → Elt F .fp8e4m3) (v : S64x512.Idx → Elt F .fp8e4m3)
    (a : Fin 64) (b : Fin 512) :
    (slotM respM j inb hq512).view.write (Elt F) fd v Finset.univ (ix3 (⟨j, hj⟩ : Fin 15) a b) = v (ix2 a b) :=
  (congrArg ((slotM respM j inb hq512).view.write (Elt F) fd v Finset.univ) (slot_emb respM j inb hq512 hj a b).symm).trans
    (View.write_emb_of_mem (v := (slotM respM j inb hq512).view) fd v (Finset.mem_univ (ix2 a b)))

theorem rs_read (j : ℕ) (hj : j < 15) (inb : InB 512 j) (f : S15x64x512.Idx → Elt F .fp8e4m3) (a : Fin 64) (b : Fin 512) :
    (slotM rsM j inb hq512).view.read (Elt F) f (ix2 a b) = f (ix3 (⟨j, hj⟩ : Fin 15) a b) :=
  congrArg f (slot_emb rsM j inb hq512 hj a b)

theorem resp_lands (c : Dev nD) (j : ℕ) (hj : j < 15) (inb : InB 512 (14 - j)) (inb' : InB 512 j) (fd : S15x64x512.Idx → Elt F .fp8e4m3) :
    ∀ i ∈ rows 512 (14 - j) (14 - j + 1),
      (slotM respM (14 - j) inb hq512).view.write (Elt F) fd ((slotM rsM j inb' hq512).view.read (Elt F) (rs m ρ c)) Finset.univ i
        = resp m ρ (peer c ⟨j, hj⟩) i := by
  intro i hi
  rw [mem_rows] at hi
  obtain ⟨p, a, b, rfl⟩ : ∃ (p : Fin 15) (a : Fin 64) (b : Fin 512), i = ix3 p a b := ⟨i 0, i 1, i 2, eq_ix3 i⟩
  have hp : p = opp ⟨j, hj⟩ := Fin.ext (by show p.val = 14 - j; have h : 14 - j ≤ p.val ∧ p.val < 14 - j + 1 := hi; omega)
  subst hp
  exact (resp_write (14 - j) (by omega) inb fd _ a b).trans ((rs_read j hj inb' (rs m ρ c) a b).trans (resp_row m ρ c j hj a b).symm)

/-- Every slot's credit is the same. -/
theorem disp_credit (j : ℕ) (inb : InB 384 j) : (slotM dispM j inb hq384).view.dmaCredit = N1 := rfl
theorem sb_credit (j : ℕ) (inb : InB 384 j) : (slotM sbM j inb hq384).view.dmaCredit = N1 := rfl
theorem rs_credit (j : ℕ) (inb : InB 512 j) : (slotM rsM j inb hq512).view.dmaCredit = N2 := rfl
theorem resp_credit (j : ℕ) (inb : InB 512 j) : (slotM respM j inb hq512).view.dmaCredit = N2 := rfl

section Steps
variable (K : Dev nD × CI → ℕ) (c : Dev nD)

/-! The pieces of the state, opened. -/
omit [FloatOps F] in
theorem landDat_eq (j : Fin 15) : landDat (F := F) c j = iprop(∃ f, dispP (F := F) (peer c j) (opp j).val ((opp j).val + 1) f) := rfl
omit [FloatOps F] in
theorem landRat_eq (j : Fin 15) : landRat (F := F) c j = iprop(∃ f, respP (F := F) (peer c j) (opp j).val ((opp j).val + 1) f) := rfl
omit [FloatOps F] in
theorem tokX_eq (a b : Fin 4) (j : Fin 15) : tokX (F := F) c a b j
    = iprop(dutyTok ER (dcell a c j) 0 (0 : Fin 15) ∗ dutyTok ER (dcell b (peer c j) (opp j)) 0 (0 : Fin 15)) := rfl
theorem sbSt_one (ds s1 : ℕ) : sbSt m ρ c ds s1 1 = iprop(sbP c ds 15 (sb m ρ c) ∗ sbP c 0 s1 (sb m ρ c)) := rfl

/-- The send of dispatch slot `j`. -/
theorem step_dsend (j : ℕ) (hj : j < 15) {jo : ℕ} (hjo : jo = 14 - j) {n : Dev nD} (hn : n = peer c ⟨j, hj⟩)
    {sS sR : DmaSem sig} (hS : sS = dsem 0 ⟨j, hj⟩) (hR : sR = dsem 1 (opp ⟨j, hj⟩)) {inb inb'}
    {hsc : (slotM dispM jo inb' hq384 : Memref sig (Dev.tc n : Thread nD τ).2.kind .vmem S64x384 .fp8e4m3).view.ref.isScScratch = false}
    {hsrc : (slotM sbM j inb hq384 : Memref sig .tc .vmem S64x384 .fp8e4m3).view.WordExact}
    {hdst : (slotM dispM jo inb' hq384 : Memref sig .tc .vmem S64x384 .fp8e4m3).view.WordExact}
    {hsem : DmaTarget.Typed .vmem (.dma sR) (.remote (Dev.tc n : Thread nD τ) (slotM dispM jo inb' hq384 : Memref sig .tc .vmem S64x384 .fp8e4m3) (.dma sS) hsc)}
    {α : Type} {Q : α → sProp 𝕄} {k : PUnit → Prog (TpuEff nD τ sig (Elt F) Λ₀ .tc) α}
    (h : St m ρ c K 15 15 (j + 1) 0 0 0 0 0 1 0 0 ⊢ WP c (k ⟨⟩) Q) :
    St m ρ c K 15 15 j 0 0 0 0 0 1 0 0 ⊢ WP c (.op (.enqueueDma (slotM sbM j inb hq384)
      (.remote (Dev.tc n : Thread nD τ) (slotM dispM jo inb' hq384) (.dma sS) hsc) (.dma sR) hsrc hdst hsem) k) Q := by
  subst hn hS hR hjo
  unfold St owesW
  iintro ⟨#Hctx, ⟨%W, HO⟩, Hdn, Hrn, Htok, Hb, HlD, HlR, HtX, Hz0, Hp0, Hc0, Hz1, Hp1, Hc1, HD, HtY, Hz2, Hp2, Hc2, Hz3, Hp3, Hc3, HP, Hsb, HR⟩
  ihave ⟨Hsb, Hsb'⟩ := (Entails.of_eq (sbSt_one m ρ c j 0)) $$ Hsb
  ihave ⟨Hl, HlD⟩ := (Entails.of_eq (win_first j 15 _ hj hj)) $$ HlD
  ihave ⟨Ht, HtX⟩ := (Entails.of_eq (win_first j 15 _ hj hj)) $$ HtX
  ihave ⟨Hs, Hsb⟩ := (Entails.of_eq (sbP_split c (Nat.le_succ j) hj (sb m ρ c))) $$ Hsb
  ihave HO := (Entails.of_eq (congrArg (fun O => owes (c : Thread nD τ) O W) (owed_ds c 15 j 0 hj))) $$ HO
  ihave ⟨#HI1, #HR1⟩ := (ctx_at m ρ K (c, .inr (0, ⟨j, hj⟩))) $$ Hctx
  ihave ⟨#HI2, #HR2⟩ := (ctx_at m ρ K (peer c ⟨j, hj⟩, .inr (1, opp ⟨j, hj⟩))) $$ Hctx
  ihave ⟨%fd, Hl⟩ := (Entails.of_eq (landDat_eq c _)) $$ Hl
  ihave ⟨Ht, Ht'⟩ := (Entails.of_eq (tokX_eq c 0 1 _)) $$ Ht
  iapply (Rounds.wp_send_pointsTo 𝒱₀ ER (Rd m ρ) (c : Thread nD τ) none (κ₁ := K (c, .inr (0, ⟨j, hj⟩))) (κ₂ := K (peer c ⟨j, hj⟩, .inr (1, opp ⟨j, hj⟩)))
      (r₁ := 0) (r₂ := 0) (d₁ := 0) (d₂ := 0) (fs := sb m ρ c) (fd := fd) (q := fullShare)
      (by rw [duties_dma]; exact Finset.mem_singleton_self _) (by rw [duties_dma]; exact Finset.mem_singleton_self _)
      () () N1 (show (slotM dispM (14 - j) inb' hq384).view.amount (.dma (dsem 1 (opp ⟨j, hj⟩))) = N1 from disp_credit (14 - j) inb') (amount_dma m ρ c 0 _ 0) (amount_dma m ρ _ 1 _ 0) (owed c 15 (j + 1) 0) rfl (W := W)
      (by rw [payload_dma, slot_set_sb]; exact BI.Entails.refl _)
      (by rw [payload_dma, slot_set_disp]; exact Entails.of_eq (pointsTo_congr (disp_lands m ρ c j hj inb' inb fd)))) $$ [HO Hl Ht Ht' Hs]
  · isplitr; · iexact HI1
    isplitr; · iexact HI2
    isplitl [Hs]; · rw [slot_set_sb]; unfold sbP; iexact Hs
    isplitl [Hl]; · rw [slot_set_disp]; unfold dispP; iexact Hl
    isplitl [HO]; · iexact HO
    isplitl [Ht]; · iexact Ht
    isplitr; · iexact HR1
    isplitl [Ht']; · iexact Ht'
    iexact HR2
  iintro ⟨Hcr, HO⟩
  ihave Hc0 := (Entails.of_eq (win_last 0 j (credAt c 0) hj (Nat.zero_le _)).symm) $$ [Hcr Hc0]
  · isplitl [Hcr]; · unfold credAt; iexact Hcr
    iexact Hc0
  ihave Hsb := (Entails.of_eq (sbSt_one m ρ c (j + 1) 0).symm) $$ [Hsb Hsb']
  · isplitl [Hsb]; · iexact Hsb
    iexact Hsb'
  iapply h
  unfold St owesW
  iframe
  isplitr; · iexact Hctx
  iexists W; iexact HO

/-- The send of answer slot `j`, whose batch has been stored. -/
theorem step_rsend (dw j rb : ℕ) (hj : j < 15) (hb : j < 3 * rb) {jo : ℕ} (hjo : jo = 14 - j) {n : Dev nD} (hn : n = peer c ⟨j, hj⟩)
    {sS sR : DmaSem sig} (hS : sS = dsem 2 ⟨j, hj⟩) (hR : sR = dsem 3 (opp ⟨j, hj⟩)) {inb inb'}
    {hsc : (slotM respM jo inb' hq512 : Memref sig (Dev.tc n : Thread nD τ).2.kind .vmem S64x512 .fp8e4m3).view.ref.isScScratch = false}
    {hsrc : (slotM rsM j inb hq512 : Memref sig .tc .vmem S64x512 .fp8e4m3).view.WordExact}
    {hdst : (slotM respM jo inb' hq512 : Memref sig .tc .vmem S64x512 .fp8e4m3).view.WordExact}
    {hsem : DmaTarget.Typed .vmem (.dma sR) (.remote (Dev.tc n : Thread nD τ) (slotM respM jo inb' hq512 : Memref sig .tc .vmem S64x512 .fp8e4m3) (.dma sS) hsc)}
    {α : Type} {Q : α → sProp 𝕄} {k : PUnit → Prog (TpuEff nD τ sig (Elt F) Λ₀ .tc) α}
    (h : St m ρ c K 15 15 15 dw (j + 1) 0 0 0 1 rb 0 ⊢ WP c (k ⟨⟩) Q) :
    St m ρ c K 15 15 15 dw j 0 0 0 1 rb 0 ⊢ WP c (.op (.enqueueDma (slotM rsM j inb hq512)
      (.remote (Dev.tc n : Thread nD τ) (slotM respM jo inb' hq512) (.dma sS) hsc) (.dma sR) hsrc hdst hsem) k) Q := by
  subst hn hS hR hjo
  unfold St owesW
  iintro ⟨#Hctx, ⟨%W, HO⟩, Hdn, Hrn, Htok, Hb, HlD, HlR, HtX, Hz0, Hp0, Hc0, Hz1, Hp1, Hc1, HD, HtY, Hz2, Hp2, Hc2, Hz3, Hp3, Hc3, HP, Hsb, Hra, Hrs, HR⟩
  ihave ⟨Hl, HlR⟩ := (Entails.of_eq (win_first j 15 _ hj hj)) $$ HlR
  ihave ⟨Ht, HtY⟩ := (Entails.of_eq (win_first j 15 _ hj hj)) $$ HtY
  ihave ⟨Hs, Hrs⟩ := (Entails.of_eq (rsP_split c (Nat.le_succ j) hb (rs m ρ c))) $$ Hrs
  ihave HO := (Entails.of_eq (congrArg (fun O => owes (c : Thread nD τ) O W) (owed_rs c 15 15 j hj))) $$ HO
  ihave ⟨#HI1, #HR1⟩ := (ctx_at m ρ K (c, .inr (2, ⟨j, hj⟩))) $$ Hctx
  ihave ⟨#HI2, #HR2⟩ := (ctx_at m ρ K (peer c ⟨j, hj⟩, .inr (3, opp ⟨j, hj⟩))) $$ Hctx
  ihave ⟨%fd, Hl⟩ := (Entails.of_eq (landRat_eq c _)) $$ Hl
  ihave ⟨Ht, Ht'⟩ := (Entails.of_eq (tokX_eq c 2 3 _)) $$ Ht
  iapply (Rounds.wp_send_pointsTo 𝒱₀ ER (Rd m ρ) (c : Thread nD τ) none (κ₁ := K (c, .inr (2, ⟨j, hj⟩))) (κ₂ := K (peer c ⟨j, hj⟩, .inr (3, opp ⟨j, hj⟩)))
      (r₁ := 0) (r₂ := 0) (d₁ := 0) (d₂ := 0) (fs := rs m ρ c) (fd := fd) (q := fullShare)
      (by rw [duties_dma]; exact Finset.mem_singleton_self _) (by rw [duties_dma]; exact Finset.mem_singleton_self _)
      () () N2 (show (slotM respM (14 - j) inb' hq512).view.amount (.dma (dsem 3 (opp ⟨j, hj⟩))) = N2 from resp_credit (14 - j) inb') (amount_dma m ρ c 2 _ 0) (amount_dma m ρ _ 3 _ 0) (owed c 15 15 (j + 1)) rfl (W := W)
      (by rw [payload_dma, slot_set_rs]; exact BI.Entails.refl _)
      (by rw [payload_dma, slot_set_resp]; exact Entails.of_eq (pointsTo_congr (resp_lands m ρ c j hj inb' inb fd)))) $$ [HO Hl Ht Ht' Hs]
  · isplitr; · iexact HI1
    isplitr; · iexact HI2
    isplitl [Hs]; · rw [slot_set_rs]; unfold rsP; iexact Hs
    isplitl [Hl]; · rw [slot_set_resp]; unfold respP; iexact Hl
    isplitl [HO]; · iexact HO
    isplitl [Ht]; · iexact Ht
    isplitr; · iexact HR1
    isplitl [Ht']; · iexact Ht'
    iexact HR2
  iintro ⟨Hcr, HO⟩
  ihave Hc2 := (Entails.of_eq (win_last 0 j (credAt c 2) hj (Nat.zero_le _)).symm) $$ [Hcr Hc2]
  · isplitl [Hcr]; · unfold credAt; iexact Hcr
    iexact Hc2
  iapply h
  unfold St owesW
  iframe
  isplitr; · iexact Hctx
  iexists W; iexact HO

/-! ## The waits -/

/-- A wait for a transfer's whole amount: the cell closes and its slot comes back. -/
theorem wait_core (a : Fin 4) (j : Fin 15) (rs' : ℕ) (h3 : rs' < 15 → lv (dcell a c j) () < 3)
    {s : DmaSem sig} (hs : s = dsem a j) {sp sp' : Space} {sh sh' : Shape} {e e' : EltTy} {κ' : Kind}
    {src : Memref sig .tc sp' sh' e'} {dst : Memref sig κ' sp sh e} {hsrc : src.view.WordExact} {hdst : dst.view.WordExact}
    (hN : dst.view.dmaCredit = amt a.val)
    {α : Type} {Q : α → sProp 𝕄} {k : PUnit → Prog (TpuEff nD τ sig (Elt F) Λ₀ .tc) α} :
    iprop(ctx m ρ K ∗ owesW c 15 15 rs' ∗ posAt c a j ∗ credAt c a j)
      ⊢ iprop(((owesW c 15 15 rs' ∗ zeroAt c a j ∗ xferPay m ρ a.val c j) -∗ WP c (k ⟨⟩) Q)
        -∗ WP c (.op (.waitDma2 s src dst hsrc hdst) k) Q) := by
  subst hs
  unfold owesW posAt credAt zeroAt
  iintro ⟨#Hctx, ⟨%W, HO⟩, Hat, Hcr⟩ Hk
  ihave ⟨#HI, -⟩ := (ctx_at m ρ K (c, .inr (a, j))) $$ Hctx
  iapply (Rounds.wp_wait_rest_token 𝒱₀ ER (Rd m ρ) (c : Thread nD τ) none (κ := K (c, .inr (a, j)))
      (wpE_waitDma2_eq 𝒱₀ (c : Thread nD τ) none Set.univ) (Set.mem_univ _) () (O := owed c 15 15 rs') (W := W) (R := 0) (m := 0) (T := ∅)
      (by rw [expect_dma, hN, Nat.zero_add])) $$ [Hcr HO Hat]
  · isplitr; · iexact HI
    isplitl [Hcr]; · rw [hN]; iexact Hcr
    isplitl [HO]; · iexact HO
    isplitr
    · iapply (ctx_wait m ρ K c (.dma (dsem a j)) 15 15 rs' (fun h => absurd h (lt_irrefl _)) (fun h => absurd h (lt_irrefl _)) h3)
      iexact Hctx
    iexact Hat
  iintro ⟨HO, Hat, -, Hpay⟩
  imod (Rounds.cell_close ER (Rd m ρ) (Set.mem_univ (K (c, .inr (a, j)))) (fun h => h) (R := 0 + 1) (duties_later m ρ (dcell a c j))) $$ [Hat] with Hz
  · isplitr; · iexact HI
    iexact Hat
  ihave Hpay := (Entails.of_eq (rest_dma m ρ c a j)) $$ Hpay
  iapply Hk
  isplitl [HO]; · iexists _; iexact HO
  isplitl [Hz]; · iexact Hz
  iexact Hpay

/-- The wait for what peer `k` packed for this device. -/
theorem step_dwait (rs' rb : ℕ) (k' : ℕ) (hk : k' < 15) {s : DmaSem sig} (hs : s = dsem 1 ⟨k', hk⟩)
    {sp sp' : Space} {sh sh' : Shape} {e e' : EltTy} {κ' : Kind}
    {src : Memref sig .tc sp' sh' e'} {dst : Memref sig κ' sp sh e} {hsrc : src.view.WordExact} {hdst : dst.view.WordExact}
    (hN : dst.view.dmaCredit = N1)
    {α : Type} {Q : α → sProp 𝕄} {k : PUnit → Prog (TpuEff nD τ sig (Elt F) Λ₀ .tc) α}
    (h : St m ρ c K 15 15 15 (k' + 1) rs' 0 0 0 1 rb 0 ⊢ WP c (k ⟨⟩) Q) :
    St m ρ c K 15 15 15 k' rs' 0 0 0 1 rb 0 ⊢ WP c (.op (.waitDma2 s src dst hsrc hdst) k) Q := by
  unfold St
  iintro ⟨#Hctx, HO, Hdn, Hrn, Htok, Hb, HlD, HlR, HtX, Hz0, Hp0, Hc0, Hz1, Hp1, Hc1, HD, HtY, Hz2, Hp2, Hc2, Hz3, Hp3, Hc3, HP, HR⟩
  ihave ⟨Hp, Hp1⟩ := (Entails.of_eq (win_first k' 15 _ hk hk)) $$ Hp1
  ihave ⟨Hc, Hc1⟩ := (Entails.of_eq (win_first k' 15 _ hk hk)) $$ Hc1
  iapply (wait_core m ρ K c 1 ⟨k', hk⟩ rs' (fun _ => by rw [lv_dma]; decide) hs hN) $$ [HO Hp Hc]
  · isplitr; · iexact Hctx
    isplitl [HO]; · iexact HO
    isplitl [Hp]; · iexact Hp
    iexact Hc
  iintro ⟨HO, Hz, Hpay⟩
  ihave Hpay := (Entails.of_eq (show xferPay m ρ (1 : Fin 4).val c ⟨k', hk⟩ = dispP c k' (k' + 1) (disp m ρ c) from rfl)) $$ Hpay
  ihave Hz1 := (Entails.of_eq (win_last 0 k' (zeroAt c 1) hk (Nat.zero_le _)).symm) $$ [Hz Hz1]
  · isplitl [Hz]; · iexact Hz
    iexact Hz1
  ihave HD := (Entails.of_eq (dispP_split c (Nat.zero_le k') (Nat.le_succ k') (disp m ρ c)).symm) $$ [Hpay HD]
  · isplitl [HD]; · iexact HD
    iexact Hpay
  iapply h
  unfold St
  iframe
  iexact Hctx

/-- The wait for peer `k`'s answers. -/
theorem step_rwait  (k' : ℕ) (hk : k' < 15) {s : DmaSem sig} (hs : s = dsem 3 ⟨k', hk⟩)
    {sp sp' : Space} {sh sh' : Shape} {e e' : EltTy} {κ' : Kind}
    {src : Memref sig .tc sp' sh' e'} {dst : Memref sig κ' sp sh e} {hsrc : src.view.WordExact} {hdst : dst.view.WordExact}
    (hN : dst.view.dmaCredit = N2)
    {α : Type} {Q : α → sProp 𝕄} {k : PUnit → Prog (TpuEff nD τ sig (Elt F) Λ₀ .tc) α}
    (h : St m ρ c K 15 15 15 15 15 (k' + 1) 0 0 1 5 0 ⊢ WP c (k ⟨⟩) Q) :
    St m ρ c K 15 15 15 15 15 k' 0 0 1 5 0 ⊢ WP c (.op (.waitDma2 s src dst hsrc hdst) k) Q := by
  unfold St
  iintro ⟨#Hctx, HO, Hdn, Hrn, Htok, Hb, HlD, HlR, HtX, Hz0, Hp0, Hc0, Hz1, Hp1, Hc1, HD, HtY, Hz2, Hp2, Hc2, Hz3, Hp3, Hc3, HP, HR⟩
  ihave ⟨Hp, Hp3⟩ := (Entails.of_eq (win_first k' 15 _ hk hk)) $$ Hp3
  ihave ⟨Hc, Hc3⟩ := (Entails.of_eq (win_first k' 15 _ hk hk)) $$ Hc3
  iapply (wait_core m ρ K c 3 ⟨k', hk⟩ 15 (fun h => absurd h (lt_irrefl _)) hs hN) $$ [HO Hp Hc]
  · isplitr; · iexact Hctx
    isplitl [HO]; · iexact HO
    isplitl [Hp]; · iexact Hp
    iexact Hc
  iintro ⟨HO, Hz, Hpay⟩
  ihave Hpay := (Entails.of_eq (show xferPay m ρ (3 : Fin 4).val c ⟨k', hk⟩ = respP c k' (k' + 1) (resp m ρ c) from rfl)) $$ Hpay
  ihave Hz3 := (Entails.of_eq (win_last 0 k' (zeroAt c 3) hk (Nat.zero_le _)).symm) $$ [Hz Hz3]
  · isplitl [Hz]; · iexact Hz
    iexact Hz3
  ihave HP := (Entails.of_eq (respP_split c (Nat.zero_le k') (Nat.le_succ k') (resp m ρ c)).symm) $$ [Hpay HP]
  · isplitl [HP]; · iexact HP
    iexact Hpay
  iapply h
  unfold St
  iframe
  iexact Hctx

/-- The wait for the send of dispatch slot `k`. -/
theorem step_swait (s2 : ℕ) (k' : ℕ) (hk : k' < 15) {s : DmaSem sig} (hs : s = dsem 0 ⟨k', hk⟩)
    {sp sp' : Space} {sh sh' : Shape} {e e' : EltTy} {κ' : Kind}
    {src : Memref sig .tc sp' sh' e'} {dst : Memref sig κ' sp sh e} {hsrc : src.view.WordExact} {hdst : dst.view.WordExact}
    (hN : dst.view.dmaCredit = N1)
    {α : Type} {Q : α → sProp 𝕄} {k : PUnit → Prog (TpuEff nD τ sig (Elt F) Λ₀ .tc) α}
    (h : St m ρ c K 15 15 15 15 15 15 (k' + 1) s2 1 5 1 ⊢ WP c (k ⟨⟩) Q) :
    St m ρ c K 15 15 15 15 15 15 k' s2 1 5 1 ⊢ WP c (.op (.waitDma2 s src dst hsrc hdst) k) Q := by
  unfold St
  iintro ⟨#Hctx, HO, Hdn, Hrn, Htok, Hb, HlD, HlR, HtX, Hz0, Hp0, Hc0, Hz1, Hp1, Hc1, HD, HtY, Hz2, Hp2, Hc2, Hz3, Hp3, Hc3, HP, Hsb, Hra, Hrs, Hrt, HR⟩
  ihave ⟨Hp, Hp0⟩ := (Entails.of_eq (win_first k' 15 _ hk hk)) $$ Hp0
  ihave ⟨Hc, Hc0⟩ := (Entails.of_eq (win_first k' 15 _ hk hk)) $$ Hc0
  ihave ⟨Hsb, Hsb'⟩ := (Entails.of_eq (sbSt_one m ρ c 15 k')) $$ Hsb
  iapply (wait_core m ρ K c 0 ⟨k', hk⟩ 15 (fun h => absurd h (lt_irrefl _)) hs hN) $$ [HO Hp Hc]
  · isplitr; · iexact Hctx
    isplitl [HO]; · iexact HO
    isplitl [Hp]; · iexact Hp
    iexact Hc
  iintro ⟨HO, Hz, Hpay⟩
  ihave Hpay := (Entails.of_eq (show xferPay m ρ (0 : Fin 4).val c ⟨k', hk⟩ = sbP c k' (k' + 1) (sb m ρ c) from rfl)) $$ Hpay
  ihave Hz0 := (Entails.of_eq (win_last 0 k' (zeroAt c 0) hk (Nat.zero_le _)).symm) $$ [Hz Hz0]
  · isplitl [Hz]; · iexact Hz
    iexact Hz0
  ihave Hsb' := (Entails.of_eq (sbP_split c (Nat.zero_le k') (Nat.le_succ k') (sb m ρ c)).symm) $$ [Hpay Hsb']
  · isplitl [Hsb']; · iexact Hsb'
    iexact Hpay
  ihave Hsb := (Entails.of_eq (sbSt_one m ρ c 15 (k' + 1)).symm) $$ [Hsb Hsb']
  · isplitl [Hsb]; · iexact Hsb
    iexact Hsb'
  iapply h
  unfold St
  iframe
  iexact Hctx

/-- The wait for the send of answer slot `k`. -/
theorem step_await (s1 : ℕ) (k' : ℕ) (hk : k' < 15) {s : DmaSem sig} (hs : s = dsem 2 ⟨k', hk⟩)
    {sp sp' : Space} {sh sh' : Shape} {e e' : EltTy} {κ' : Kind}
    {src : Memref sig .tc sp' sh' e'} {dst : Memref sig κ' sp sh e} {hsrc : src.view.WordExact} {hdst : dst.view.WordExact}
    (hN : dst.view.dmaCredit = N2)
    {α : Type} {Q : α → sProp 𝕄} {k : PUnit → Prog (TpuEff nD τ sig (Elt F) Λ₀ .tc) α}
    (h : St m ρ c K 15 15 15 15 15 15 s1 (k' + 1) 1 5 1 ⊢ WP c (k ⟨⟩) Q) :
    St m ρ c K 15 15 15 15 15 15 s1 k' 1 5 1 ⊢ WP c (.op (.waitDma2 s src dst hsrc hdst) k) Q := by
  unfold St
  iintro ⟨#Hctx, HO, Hdn, Hrn, Htok, Hb, HlD, HlR, HtX, Hz0, Hp0, Hc0, Hz1, Hp1, Hc1, HD, HtY, Hz2, Hp2, Hc2, Hz3, Hp3, Hc3, HP, Hsb, Hra, Hrs, Hrt, HR⟩
  ihave ⟨Hp, Hp2⟩ := (Entails.of_eq (win_first k' 15 _ hk hk)) $$ Hp2
  ihave ⟨Hc, Hc2⟩ := (Entails.of_eq (win_first k' 15 _ hk hk)) $$ Hc2
  iapply (wait_core m ρ K c 2 ⟨k', hk⟩ 15 (fun h => absurd h (lt_irrefl _)) hs hN) $$ [HO Hp Hc]
  · isplitr; · iexact Hctx
    isplitl [HO]; · iexact HO
    isplitl [Hp]; · iexact Hp
    iexact Hc
  iintro ⟨HO, Hz, Hpay⟩
  ihave Hpay := (Entails.of_eq (show xferPay m ρ (2 : Fin 4).val c ⟨k', hk⟩ = rsP c k' (k' + 1) (rs m ρ c) from rfl)) $$ Hpay
  ihave Hz2 := (Entails.of_eq (win_last 0 k' (zeroAt c 2) hk (Nat.zero_le _)).symm) $$ [Hz Hz2]
  · isplitl [Hz]; · iexact Hz
    iexact Hz2
  ihave Hrt := (Entails.of_eq (rsP_split c (Nat.zero_le k') (Nat.le_succ k') (rs m ρ c)).symm) $$ [Hpay Hrt]
  · isplitl [Hrt]; · iexact Hrt
    iexact Hpay
  iapply h
  unfold St
  iframe
  iexact Hctx

end Steps

end Cert.Moe

end
-- ==== Proof.Access.lean ====
/-
# The loads and the stores

A load finds its buffer in the state and leaves the state as it was; a store turns one state into another. The kernel
loads every place it is about to overwrite, so some loads' values are never used.
-/
module

public import proofs.«01_k».proof.Proof.Sends

@[expose] public section

noncomputable section

namespace Cert.Moe

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

section Access
variable (K : Dev nD × CI → ℕ) (c : Dev nD)

/-! ## One access -/

/-- A load of a buffer the state holds at known contents. -/
theorem load_step {S : sProp 𝕄} {sp : CoreSpace} {s : Shape} {e : EltTy} {M : Memref sig .tc sp s e} {r : LoadRect s} {hl : M.view.LoadsAt r}
    {X : Finset (Idx (M.view.loc (c : Thread nD τ)))} {f : Buf (Elt F) (M.view.loc (c : Thread nD τ))} (hX : M.view.setOn r.set ⊆ X)
    (hS : S ⊢ iprop((M.view.loc (c : Thread nD τ) ↦[X]{fullShare} f) ∗ ((M.view.loc (c : Thread nD τ) ↦[X]{fullShare} f) -∗ S)))
    {α : Type} {Q : α → sProp 𝕄} {k : (r.shape.Idx → Elt F e) → Prog (TpuEff nD τ sig (Elt F) Λ₀ .tc) α}
    (h : S ⊢ WP c (k (M.view.readAt (Elt F) r f)) Q) : S ⊢ WP c (.op (.load M r hl) k) Q := by
  refine hS.trans ?_
  iintro ⟨H, Hk⟩
  iapply (wp_load 𝒱₀ (c : Thread nD τ) none Set.univ (m := M) hX) $$ [H]; · iexact H
  iintro H
  iapply h
  iapply Hk; iexact H

/-- A load whose value is not used. -/
theorem load_any {S : sProp 𝕄} {sp : CoreSpace} {s : Shape} {e : EltTy} {M : Memref sig .tc sp s e} {r : LoadRect s} {hl : M.view.LoadsAt r}
    {X : Finset (Idx (M.view.loc (c : Thread nD τ)))} (hX : M.view.setOn r.set ⊆ X)
    (hS : S ⊢ iprop(∃ f, (M.view.loc (c : Thread nD τ) ↦[X]{fullShare} f) ∗ ((M.view.loc (c : Thread nD τ) ↦[X]{fullShare} f) -∗ S)))
    {α : Type} {Q : α → sProp 𝕄} {k : (r.shape.Idx → Elt F e) → Prog (TpuEff nD τ sig (Elt F) Λ₀ .tc) α}
    (h : ∀ v, S ⊢ WP c (k v) Q) : S ⊢ WP c (.op (.load M r hl) k) Q := by
  refine hS.trans ?_
  iintro ⟨%f, H, Hk⟩
  iapply (wp_load 𝒱₀ (c : Thread nD τ) none Set.univ (m := M) hX) $$ [H]; · iexact H
  iintro H
  iapply (h _)
  iapply Hk; iexact H

/-- A store. -/
theorem store_step {S S' : sProp 𝕄} {sp : CoreSpace} {s : Shape} {e : EltTy} {M : Memref sig .tc sp s e} {r : Rect s} {w : r.shape.Idx → Elt F e}
    {Mk : Finset r.shape.Idx} {hx : (M.access r).Stores Mk} {hm : Mk = Finset.univ ∨ ∀ a, r.stride a = 1}
    {X : Finset (Idx ((M.access r).loc (c : Thread nD τ)))} (hX : (M.access r).setOn Mk ⊆ X)
    (hS : S ⊢ iprop(∃ f, ((M.access r).loc (c : Thread nD τ) ↦[X]{fullShare} f)
      ∗ (((M.access r).loc (c : Thread nD τ) ↦[X]{fullShare} ((M.access r).write (Elt F) f w Mk)) -∗ S')))
    {α : Type} {Q : α → sProp 𝕄} {k : PUnit → Prog (TpuEff nD τ sig (Elt F) Λ₀ .tc) α}
    (h : S' ⊢ WP c (k ⟨⟩) Q) : S ⊢ WP c (.op (.store M r w Mk hx hm) k) Q := by
  refine hS.trans ?_
  iintro ⟨%f, H, Hk⟩
  iapply (wp_store 𝒱₀ (c : Thread nD τ) none Set.univ (m := M) (r := r) (Mk := Mk) hX) $$ [H]; · iexact H
  iintro H
  iapply h
  iapply Hk; iexact H

/-! ## The buffers the state holds -/

variable {sg bw ds dw rs' rw s1 s2 pk rb ob : ℕ}

/-- The inputs' staging buffers. -/
theorem St_ins : St m ρ c K sg bw ds dw rs' rw s1 s2 pk rb ob ⊢ iprop(insP m ρ c ∗ (insP m ρ c -∗ St m ρ c K sg bw ds dw rs' rw s1 s2 pk rb ob)) := by
  unfold St
  iintro ⟨#Hctx, HO, Hdn, Hrn, Htok, Hb, HlD, HlR, HtX, Hz0, Hp0, Hc0, Hz1, Hp1, Hc1, HD, HtY, Hz2, Hp2, Hc2, Hz3, Hp3, Hc3, HP, Hsb, Hra, Hrs, Hrt, Hi, Ho⟩
  isplitl [Hi]; · iexact Hi
  iintro Hi
  iframe
  iexact Hctx

theorem St_x : St m ρ c K sg bw ds dw rs' rw s1 s2 pk rb ob
    ⊢ iprop(whole c cc0_stg0_0 (xv m ρ c) ∗ (whole c cc0_stg0_0 (xv m ρ c) -∗ St m ρ c K sg bw ds dw rs' rw s1 s2 pk rb ob)) := by
  refine (St_ins m ρ K c).trans ?_
  unfold insP
  iintro ⟨⟨H0, H1, H2, H3, H4⟩, Hk⟩
  isplitl [H0]; · iexact H0
  iintro H0; iapply Hk; iframe
theorem St_rw : St m ρ c K sg bw ds dw rs' rw s1 s2 pk rb ob
    ⊢ iprop(whole c cc0_stg1_0 (rwv m ρ c) ∗ (whole c cc0_stg1_0 (rwv m ρ c) -∗ St m ρ c K sg bw ds dw rs' rw s1 s2 pk rb ob)) := by
  refine (St_ins m ρ K c).trans ?_
  unfold insP
  iintro ⟨⟨H0, H1, H2, H3, H4⟩, Hk⟩
  isplitl [H1]; · iexact H1
  iintro H1; iapply Hk; iframe
theorem St_idx : St m ρ c K sg bw ds dw rs' rw s1 s2 pk rb ob
    ⊢ iprop(whole c cc0_stg2_0 (idxv m ρ c) ∗ (whole c cc0_stg2_0 (idxv m ρ c) -∗ St m ρ c K sg bw ds dw rs' rw s1 s2 pk rb ob)) := by
  refine (St_ins m ρ K c).trans ?_
  unfold insP
  iintro ⟨⟨H0, H1, H2, H3, H4⟩, Hk⟩
  isplitl [H2]; · iexact H2
  iintro H2; iapply Hk; iframe
theorem St_ew : St m ρ c K sg bw ds dw rs' rw s1 s2 pk rb ob
    ⊢ iprop(whole c cc0_stg3_0 (ewv m ρ c) ∗ (whole c cc0_stg3_0 (ewv m ρ c) -∗ St m ρ c K sg bw ds dw rs' rw s1 s2 pk rb ob)) := by
  refine (St_ins m ρ K c).trans ?_
  unfold insP
  iintro ⟨⟨H0, H1, H2, H3, H4⟩, Hk⟩
  isplitl [H3]; · iexact H3
  iintro H3; iapply Hk; iframe
theorem St_sw : St m ρ c K sg bw ds dw rs' rw s1 s2 pk rb ob
    ⊢ iprop(whole c cc0_stg4_0 (swv m ρ c) ∗ (whole c cc0_stg4_0 (swv m ρ c) -∗ St m ρ c K sg bw ds dw rs' rw s1 s2 pk rb ob)) := by
  refine (St_ins m ρ K c).trans ?_
  unfold insP
  iintro ⟨⟨H0, H1, H2, H3, H4⟩, Hk⟩
  isplitl [H4]; · iexact H4
  iintro H4; iapply Hk; iframe

theorem z2 : (![0, 0] : Fin 2 → Nat) = fun _ => 0 := by
  funext a; match a with | ⟨0, _⟩ => rfl | ⟨1, _⟩ => rfl

theorem step_ld_x {α : Type} {Q : α → sProp 𝕄} {inb hl} {k : Vec F S512x256 .bf16 → Prog (TpuEff nD τ sig (Elt F) Λ₀ .tc) α}
    (h : St m ρ c K sg bw ds dw rs' rw s1 s2 pk rb ob ⊢ WP c (k (xv m ρ c)) Q) :
    St m ρ c K sg bw ds dw rs' rw s1 s2 pk rb ob ⊢ WP c (.op (.load xM (Rect.unit (s := S512x256) ![0, 0] S512x256.size inb).toLoadRect hl) k) Q :=
  load_step c (M := xM) (X := Finset.univ) (f := xv m ρ c) (Finset.subset_univ _) (St_x m ρ K c)
    (by rw [show xM.view.readAt (Elt F) (Rect.unit (s := S512x256) ![0, 0] S512x256.size inb).toLoadRect (xv m ρ c) = xv m ρ c from
          Memref.readAt_unit_zero (Elt F) cc0_stg0_0 z2 inb (xv m ρ c)]
        exact h)
theorem step_ld_rw {α : Type} {Q : α → sProp 𝕄} {inb hl} {k : Vec F S256x32 .bf16 → Prog (TpuEff nD τ sig (Elt F) Λ₀ .tc) α}
    (h : St m ρ c K sg bw ds dw rs' rw s1 s2 pk rb ob ⊢ WP c (k (rwv m ρ c)) Q) :
    St m ρ c K sg bw ds dw rs' rw s1 s2 pk rb ob ⊢ WP c (.op (.load rwM (Rect.unit (s := S256x32) ![0, 0] S256x32.size inb).toLoadRect hl) k) Q :=
  load_step c (M := rwM) (X := Finset.univ) (f := rwv m ρ c) (Finset.subset_univ _) (St_rw m ρ K c)
    (by rw [show rwM.view.readAt (Elt F) (Rect.unit (s := S256x32) ![0, 0] S256x32.size inb).toLoadRect (rwv m ρ c) = rwv m ρ c from
          Memref.readAt_unit_zero (Elt F) cc0_stg1_0 z2 inb (rwv m ρ c)]
        exact h)
theorem step_ld_idx {α : Type} {Q : α → sProp 𝕄} {inb hl} {k : Vec F S512x1 .i32 → Prog (TpuEff nD τ sig (Elt F) Λ₀ .tc) α}
    (h : St m ρ c K sg bw ds dw rs' rw s1 s2 pk rb ob ⊢ WP c (k (idxv m ρ c)) Q) :
    St m ρ c K sg bw ds dw rs' rw s1 s2 pk rb ob ⊢ WP c (.op (.load idxM (Rect.unit (s := S512x1) ![0, 0] S512x1.size inb).toLoadRect hl) k) Q :=
  load_step c (M := idxM) (X := Finset.univ) (f := idxv m ρ c) (Finset.subset_univ _) (St_idx m ρ K c)
    (by rw [show idxM.view.readAt (Elt F) (Rect.unit (s := S512x1) ![0, 0] S512x1.size inb).toLoadRect (idxv m ρ c) = idxv m ρ c from
          Memref.readAt_unit_zero (Elt F) cc0_stg2_0 z2 inb (idxv m ρ c)]
        exact h)
theorem step_ld_sw {α : Type} {Q : α → sProp 𝕄} {inb hl} {k : Vec F S256x512 .bf16 → Prog (TpuEff nD τ sig (Elt F) Λ₀ .tc) α}
    (h : St m ρ c K sg bw ds dw rs' rw s1 s2 pk rb ob ⊢ WP c (k (swv m ρ c)) Q) :
    St m ρ c K sg bw ds dw rs' rw s1 s2 pk rb ob ⊢ WP c (.op (.load swM (Rect.unit (s := S256x512) ![0, 0] S256x512.size inb).toLoadRect hl) k) Q :=
  load_step c (M := swM) (X := Finset.univ) (f := swv m ρ c) (Finset.subset_univ _) (St_sw m ρ K c)
    (by rw [show swM.view.readAt (Elt F) (Rect.unit (s := S256x512) ![0, 0] S256x512.size inb).toLoadRect (swv m ρ c) = swv m ρ c from
          Memref.readAt_unit_zero (Elt F) cc0_stg4_0 z2 inb (swv m ρ c)]
        exact h)

/-- One of the two experts' weights. -/
theorem step_ld_ew (o : ℕ) (ho : o < 2) {α : Type} {Q : α → sProp 𝕄} {inb hl} {k : Vec F S1x256x512 .bf16 → Prog (TpuEff nD τ sig (Elt F) Λ₀ .tc) α}
    (h : St m ρ c K sg bw ds dw rs' rw s1 s2 pk rb ob ⊢ WP c (k (fun i : S1x256x512.Idx => ewv m ρ c (ix3 (⟨o, ho⟩ : Fin 2) (i 1) (i 2)))) Q) :
    St m ρ c K sg bw ds dw rs' rw s1 s2 pk rb ob ⊢ WP c (.op (.load ewM (Rect.unit (s := S2x256x512) ![o, 0, 0] S1x256x512.size inb).toLoadRect hl) k) Q :=
  load_step c (M := ewM) (X := Finset.univ) (f := ewv m ρ c) (Finset.subset_univ _) (St_ew m ρ K c)
    (by
      refine h.trans (Entails.of_eq (congrArg (fun v => WP c (k v) Q) (funext fun i => ?_)))
      show ewv m ρ c (ix3 (⟨o, ho⟩ : Fin 2) (i 1) (i 2)) = ewv m ρ c ((Rect.unit (s := S2x256x512) ![o, 0, 0] S1x256x512.size inb).emb i)
      refine congrArg (ewv m ρ c) (funext fun a => ?_)
      have hi : (i 0).val < 1 := (i 0).isLt
      match a with
      | ⟨0, _⟩ => apply Fin.ext; show o = o + 1 * (i 0).val; omega
      | ⟨1, _⟩ => apply Fin.ext; show (i 1).val = 0 + 1 * (i 1).val; omega
      | ⟨2, _⟩ => apply Fin.ext; show (i 2).val = 0 + 1 * (i 2).val; omega)

/-! ## The batches of three slots -/

/-- A batch's element lies in the batch's row. -/
theorem batch_emb {w : ℕ} {o b : ℕ} (ho : o = 3 * b) (hb : b < 5) (inb) (x : Fin 3) (p : Fin 64) (q : Fin w) :
    (Rect.unit (s := ⟨3, ![15, 64, w]⟩) ![o, 0, 0] (⟨3, ![3, 64, w]⟩ : Shape).size inb).emb (ix3 x p q)
      = ix3 (⟨3 * b + x.val, by omega⟩ : Fin 15) p q := by
  subst ho
  exact rect_emb inb (ix3 x p q) (by show 3 * b + x.val < 15; omega)

/-- What the kernel reads of three landed dispatch slots. -/
theorem step_ld_disp {α : Type} {Q : α → sProp 𝕄} (b : ℕ) (hb : b < 5) {o : ℕ} (ho : o = 3 * b) (hdw : 3 * b + 3 ≤ dw) {inb hl}
    {k : Vec F S3x64x384 .fp8e4m3 → Prog (TpuEff nD τ sig (Elt F) Λ₀ .tc) α}
    (h : St m ρ c K sg bw ds dw rs' rw s1 s2 pk rb ob ⊢ WP c (k (three (disp m ρ c) b hb)) Q) :
    St m ρ c K sg bw ds dw rs' rw s1 s2 pk rb ob
      ⊢ WP c (.op (.load dispM (Rect.unit (s := S15x64x384) ![o, 0, 0] S3x64x384.size inb).toLoadRect hl) k) Q := by
  refine load_step c (M := dispM) (X := rows 384 0 dw) (f := disp m ρ c) ?_ ?_ ?_
  · show Finset.map _ (Rect.unit (s := S15x64x384) ![o, 0, 0] S3x64x384.size inb).set ⊆ _
    rw [show (Rect.unit (s := S15x64x384) ![o, 0, 0] S3x64x384.size inb).set = rows 384 o (o + 3) from rect_rows inb]
    intro i hi
    obtain ⟨i', hi', rfl⟩ := Finset.mem_map.mp hi
    rw [mem_rows] at hi'
    refine mem_rows.mpr ⟨Nat.zero_le _, ?_⟩
    have h2 : (i' 0).val < o + 3 := hi'.2
    show (i' 0).val < dw
    omega
  · unfold St
    iintro ⟨#Hctx, HO, Hdn, Hrn, Htok, Hb, HlD, HlR, HtX, Hz0, Hp0, Hc0, Hz1, Hp1, Hc1, HD, HtY, Hz2, Hp2, Hc2, Hz3, Hp3, Hc3, HP, Hsb, Hra, Hrs, Hrt, Hi, Ho⟩
    isplitl [HD]; · unfold dispP; iexact HD
    iintro HD
    iframe
    isplitr; · iexact Hctx
    unfold dispP; iexact HD
  · refine h.trans (Entails.of_eq (congrArg (fun v => WP c (k v) Q) (funext fun i => ?_)))
    obtain ⟨x, p, q, rfl⟩ : ∃ (x : Fin 3) (p : Fin 64) (q : Fin 384), i = ix3 x p q := ⟨i 0, i 1, i 2, eq_ix3 i⟩
    exact congrArg (disp m ρ c) (batch_emb ho hb inb x p q).symm

/-- What the kernel reads of three landed answer slots. -/
theorem step_ld_resp {α : Type} {Q : α → sProp 𝕄} (b : ℕ) (hb : b < 5) {o : ℕ} (ho : o = 3 * b) (hrw : 3 * b + 3 ≤ rw) {inb hl}
    {k : Vec F S3x64x512 .fp8e4m3 → Prog (TpuEff nD τ sig (Elt F) Λ₀ .tc) α}
    (h : St m ρ c K sg bw ds dw rs' rw s1 s2 pk rb ob ⊢ WP c (k (three (resp m ρ c) b hb)) Q) :
    St m ρ c K sg bw ds dw rs' rw s1 s2 pk rb ob
      ⊢ WP c (.op (.load respM (Rect.unit (s := S15x64x512) ![o, 0, 0] S3x64x512.size inb).toLoadRect hl) k) Q := by
  refine load_step c (M := respM) (X := rows 512 0 rw) (f := resp m ρ c) ?_ ?_ ?_
  · show Finset.map _ (Rect.unit (s := S15x64x512) ![o, 0, 0] S3x64x512.size inb).set ⊆ _
    rw [show (Rect.unit (s := S15x64x512) ![o, 0, 0] S3x64x512.size inb).set = rows 512 o (o + 3) from rect_rows inb]
    intro i hi
    obtain ⟨i', hi', rfl⟩ := Finset.mem_map.mp hi
    rw [mem_rows] at hi'
    refine mem_rows.mpr ⟨Nat.zero_le _, ?_⟩
    have h2 : (i' 0).val < o + 3 := hi'.2
    show (i' 0).val < rw
    omega
  · unfold St
    iintro ⟨#Hctx, HO, Hdn, Hrn, Htok, Hb, HlD, HlR, HtX, Hz0, Hp0, Hc0, Hz1, Hp1, Hc1, HD, HtY, Hz2, Hp2, Hc2, Hz3, Hp3, Hc3, HP, Hsb, Hra, Hrs, Hrt, Hi, Ho⟩
    isplitl [HP]; · unfold respP; iexact HP
    iintro HP
    iframe
    isplitr; · iexact Hctx
    unfold respP; iexact HP
  · refine h.trans (Entails.of_eq (congrArg (fun v => WP c (k v) Q) (funext fun i => ?_)))
    obtain ⟨x, p, q, rfl⟩ : ∃ (x : Fin 3) (p : Fin 64) (q : Fin 512), i = ix3 x p q := ⟨i 0, i 1, i 2, eq_ix3 i⟩
    exact congrArg (resp m ρ c) (batch_emb ho hb inb x p q).symm

/-- The rows of answers not stored yet lie in the batch's view. -/
theorem batch_rows {w o : ℕ} {b : ℕ} (ho : o = 3 * b) (hb : b < 5) (inb) :
    (Rect.unit (s := ⟨3, ![15, 64, w]⟩) ![o, 0, 0] (⟨3, ![3, 64, w]⟩ : Shape).size inb).set ⊆ rows w (3 * b) 15 := by
  rw [rect_rows inb]
  intro i hi
  rw [mem_rows] at hi
  exact mem_rows.mpr ⟨by omega, by omega⟩

/-- The value read where a batch of answers is about to be stored is not used. -/
theorem step_ld_rs {α : Type} {Q : α → sProp 𝕄} (b : ℕ) (hb : b < 5) {o : ℕ} (ho : o = 3 * b) {inb hl}
    {k : Vec F S3x64x512 .fp8e4m3 → Prog (TpuEff nD τ sig (Elt F) Λ₀ .tc) α}
    (h : ∀ v, St m ρ c K sg bw ds dw rs' rw s1 s2 pk b ob ⊢ WP c (k v) Q) :
    St m ρ c K sg bw ds dw rs' rw s1 s2 pk b ob
      ⊢ WP c (.op (.load rsM (Rect.unit (s := S15x64x512) ![o, 0, 0] S3x64x512.size inb).toLoadRect hl) k) Q := by
  refine load_any c (M := rsM) (X := rows 512 (3 * b) 15) ?_ ?_ h
  · intro i hi
    obtain ⟨i', hi', rfl⟩ := Finset.mem_map.mp hi
    exact batch_rows ho hb inb hi'
  · unfold St rsAny
    iintro ⟨#Hctx, HO, Hdn, Hrn, Htok, Hb, HlD, HlR, HtX, Hz0, Hp0, Hc0, Hz1, Hp1, Hc1, HD, HtY, Hz2, Hp2, Hc2, Hz3, Hp3, Hc3, HP, Hsb, ⟨%f, Hra⟩, Hrs, Hrt, Hi, Ho⟩
    iexists f
    isplitl [Hra]; · unfold rsP; iexact Hra
    iintro Hra
    iframe
    isplitr; · iexact Hctx
    iexists f; unfold rsP; iexact Hra

/-- An answer in its batch. -/
theorem rs_batch (b : ℕ) (hb : b < 5) (x : Fin 3) (p : Fin 64) (q : Fin 512) :
    rs m ρ c (ix3 (⟨3 * b + x.val, by omega⟩ : Fin 15) p q)
      = k0_pay14 (ew0v m ρ c) (ew1v m ρ c) (three (disp m ρ c) b hb) (ix3 x p q) := by
  have h1 : (3 * b + x.val) / 3 = b := by omega
  have h2 : (⟨(3 * b + x.val) % 3, Nat.mod_lt _ (by decide)⟩ : Fin 3) = x := Fin.ext (by show (3 * b + x.val) % 3 = x.val; omega)
  have key : ∀ (b' : ℕ) (hb' : b' < 5) (x' : Fin 3), b' = b → x' = x →
      k0_pay14 (ew0v m ρ c) (ew1v m ρ c) (three (disp m ρ c) b' hb') (ix3 x' p q)
        = k0_pay14 (ew0v m ρ c) (ew1v m ρ c) (three (disp m ρ c) b hb) (ix3 x p q) := by
    rintro b' hb' x' rfl rfl; rfl
  exact key _ _ _ h1 h2

/-- The store of a batch of answers. -/
theorem step_st_rs {α : Type} {Q : α → sProp 𝕄} (b : ℕ) (hb : b < 5) (hrs : rs' ≤ 3 * b) {o : ℕ} (ho : o = 3 * b) {inb hx hm}
    {w : Vec F S3x64x512 .fp8e4m3} (hw : w = k0_pay14 (ew0v m ρ c) (ew1v m ρ c) (three (disp m ρ c) b hb))
    {k : PUnit → Prog (TpuEff nD τ sig (Elt F) Λ₀ .tc) α}
    (h : St m ρ c K sg bw ds dw rs' rw s1 s2 pk (b + 1) ob ⊢ WP c (k ⟨⟩) Q) :
    St m ρ c K sg bw ds dw rs' rw s1 s2 pk b ob
      ⊢ WP c (.op (.store rsM (Rect.unit (s := S15x64x512) ![o, 0, 0] S3x64x512.size inb) w Finset.univ hx hm) k) Q := by
  subst hw
  refine store_step c (M := rsM) (r := Rect.unit (s := S15x64x512) ![o, 0, 0] S3x64x512.size inb) (S' := St m ρ c K sg bw ds dw rs' rw s1 s2 pk (b + 1) ob) (X := rows 512 (3 * b) 15) ?_ ?_ h
  · exact (View.set_slice_whole cc0_scratch2 _).subset.trans (batch_rows ho hb inb)
  · unfold St rsAny
    iintro ⟨#Hctx, HO, Hdn, Hrn, Htok, Hb, HlD, HlR, HtX, Hz0, Hp0, Hc0, Hz1, Hp1, Hc1, HD, HtY, Hz2, Hp2, Hc2, Hz3, Hp3, Hc3, HP, Hsb, ⟨%f, Hra⟩, Hrs, Hrt, Hi, Ho⟩
    iexists f
    isplitl [Hra]; · unfold rsP; iexact Hra
    iintro Hra
    ihave ⟨Hn, Hra⟩ := (Entails.of_eq (rsP_split c (Nat.le_add_right (3 * b) 3) (by omega : 3 * b + 3 ≤ 15) _)) $$ [Hra]
    · unfold rsP; iexact Hra
    ihave Hn := (Entails.of_eq (show rsP c (3 * b) (3 * b + 3) ((rsM.access (Rect.unit (s := S15x64x512) ![o, 0, 0] S3x64x512.size inb)).write (Elt F) f
        (k0_pay14 (ew0v m ρ c) (ew1v m ρ c) (three (disp m ρ c) b hb)) Finset.univ) = rsP c (3 * b) (3 * b + 3) (rs m ρ c) from ?_)) $$ Hn
    · unfold rsP
      refine pointsTo_congr fun i hi => ?_
      have hi' := mem_rows.mp hi
      obtain ⟨x', p, q, rfl⟩ : ∃ (x' : Fin 15) (p : Fin 64) (q : Fin 512), i = ix3 x' p q := ⟨i 0, i 1, i 2, eq_ix3 i⟩
      have hx' : 3 * b ≤ x'.val ∧ x'.val < 3 * b + 3 := hi'
      obtain ⟨x, hx3, rfl⟩ : ∃ (x : Fin 3) (hx3 : 3 * b + x.val < 15), x' = ⟨3 * b + x.val, hx3⟩ := ⟨⟨x'.val - 3 * b, by omega⟩, by show 3 * b + (x'.val - 3 * b) < 15; omega, Fin.ext (by show x'.val = 3 * b + (x'.val - 3 * b); omega)⟩
      refine Eq.trans ?_ (rs_batch m ρ c b hb x p q).symm
      exact (congrArg ((rsM.access (Rect.unit (s := S15x64x512) ![o, 0, 0] S3x64x512.size inb)).write (Elt F) f
        (k0_pay14 (ew0v m ρ c) (ew1v m ρ c) (three (disp m ρ c) b hb)) Finset.univ) (batch_emb ho hb inb x p q).symm).trans
        (View.write_emb_of_mem (v := rsM.access (Rect.unit (s := S15x64x512) ![o, 0, 0] S3x64x512.size inb)) f _ (Finset.mem_univ (ix3 x p q)))
    ihave Hrs := (Entails.of_eq (rsP_split c hrs (Nat.le_add_right (3 * b) 3) (rs m ρ c)).symm) $$ [Hrs Hn]
    · isplitl [Hrs]; · iexact Hrs
      iexact Hn
    iframe
    isplitr; · iexact Hctx
    iexists _; iexact Hra

/-! ## The result -/

/-- The value read where the result is about to be stored is not used. -/
theorem step_ld_out {α : Type} {Q : α → sProp 𝕄} {inb hl} {k : Vec F S512x512 .f32 → Prog (TpuEff nD τ sig (Elt F) Λ₀ .tc) α}
    (h : ∀ v, St m ρ c K sg bw ds dw rs' rw s1 s2 pk rb 0 ⊢ WP c (k v) Q) :
    St m ρ c K sg bw ds dw rs' rw s1 s2 pk rb 0 ⊢ WP c (.op (.load oM (Rect.unit (s := S512x512) ![0, 0] S512x512.size inb).toLoadRect hl) k) Q := by
  refine load_any c (M := oM) (X := Finset.univ) (Finset.subset_univ _) ?_ h
  unfold St outSt
  iintro ⟨#Hctx, HO, Hdn, Hrn, Htok, Hb, HlD, HlR, HtX, Hz0, Hp0, Hc0, Hz1, Hp1, Hc1, HD, HtY, Hz2, Hp2, Hc2, Hz3, Hp3, Hc3, HP, Hsb, Hra, Hrs, Hrt, Hi, ⟨%f, Ho⟩⟩
  iexists f
  isplitl [Ho]; · iexact Ho
  iintro Ho
  iframe
  isplitr; · iexact Hctx
  iexists f; iexact Ho

/-- The store of the result. -/
theorem step_st_out {α : Type} {Q : α → sProp 𝕄} {inb hx hm} {w : Vec F S512x512 .f32} (hw : w = outv m ρ c)
    {k : PUnit → Prog (TpuEff nD τ sig (Elt F) Λ₀ .tc) α}
    (h : St m ρ c K sg bw ds dw rs' rw s1 s2 pk rb 1 ⊢ WP c (k ⟨⟩) Q) :
    St m ρ c K sg bw ds dw rs' rw s1 s2 pk rb 0
      ⊢ WP c (.op (.store oM (Rect.unit (s := S512x512) ![0, 0] S512x512.size inb) w Finset.univ hx hm) k) Q := by
  subst hw
  refine store_step c (M := oM) (r := Rect.unit (s := S512x512) ![0, 0] S512x512.size inb) (S' := St m ρ c K sg bw ds dw rs' rw s1 s2 pk rb 1) (X := Finset.univ) (Finset.subset_univ _) ?_ h
  unfold St outSt
  iintro ⟨#Hctx, HO, Hdn, Hrn, Htok, Hb, HlD, HlR, HtX, Hz0, Hp0, Hc0, Hz1, Hp1, Hc1, HD, HtY, Hz2, Hp2, Hc2, Hz3, Hp3, Hc3, HP, Hsb, Hra, Hrs, Hrt, Hi, ⟨%f, Ho⟩⟩
  iexists f
  isplitl [Ho]; · iexact Ho
  iintro Ho
  ihave Ho := (Entails.of_eq (congrArg (fun v => whole c cc0_stg5_0 v)
    (Memref.write_access_unit_zero_univ (Elt F) cc0_stg5_0 z2 inb f (outv m ρ c)))) $$ Ho
  iframe
  iexact Hctx

/-! ## The dispatch rows -/

/-- The send buffer before the rows are packed. -/
theorem St_pack {ds₀ s₀' : ℕ} (hds : ds₀ = 0) (hs : s₀' = 0) : St m ρ c K sg bw ds₀ dw rs' rw s₀' s2 0 rb ob
    ⊢ iprop((∃ f, whole (F := F) c cc0_scratch0 f) ∗ (whole c cc0_scratch0 (sb m ρ c) -∗ St m ρ c K sg bw ds₀ dw rs' rw s₀' s2 1 rb ob)) := by
  subst hds hs
  unfold St
  iintro ⟨#Hctx, HO, Hdn, Hrn, Htok, Hb, HlD, HlR, HtX, Hz0, Hp0, Hc0, Hz1, Hp1, Hc1, HD, HtY, Hz2, Hp2, Hc2, Hz3, Hp3, Hc3, HP, Hsb, Hra, Hrs, Hrt, Hi, Ho⟩
  isplitl [Hsb]
  · unfold sbSt
    icases Hsb with ⟨%f, Hsb⟩
    iexists f
    unfold sbP pts; rw [rows_all]; iexact Hsb
  iintro Hsb
  iframe
  isplitr; · iexact Hctx
  unfold sbSt
  isplitl [Hsb]
  · unfold sbP pts; rw [rows_all]; iexact Hsb
  · rw [sbP_none]; iempintro

/-- Rows packed from two stores: the first 256 columns, then the other 128. -/
theorem pack_eq (f : S15x64x384.Idx → Elt F .fp8e4m3) (inbA inbB) :
    (sbM.access (Rect.unit (s := S15x64x384) ![0, 0, 256] S15x64x128.size inbB)).write (Elt F)
      ((sbM.access (Rect.unit (s := S15x64x384) ![0, 0, 0] S15x64x256.size inbA)).write (Elt F) f (sbA m ρ c) Finset.univ)
      (sbB m ρ c) Finset.univ = sb m ρ c := by
  funext i
  obtain ⟨x, p, q, rfl⟩ : ∃ (x : Fin 15) (p : Fin 64) (q : Fin 384), i = ix3 x p q := ⟨i 0, i 1, i 2, eq_ix3 i⟩
  by_cases hq : q.val < 256
  · have e : (Rect.unit (s := S15x64x384) ![0, 0, 0] S15x64x256.size inbA).emb (ix3 x p (⟨q.val, hq⟩ : Fin 256)) = ix3 x p q := by
      funext a
      match a with
      | ⟨0, _⟩ => apply Fin.ext; show 0 + 1 * x.val = x.val; omega
      | ⟨1, _⟩ => apply Fin.ext; show 0 + 1 * p.val = p.val; omega
      | ⟨2, _⟩ => apply Fin.ext; show 0 + 1 * q.val = q.val; omega
    refine (View.write_of_not_mem (v := sbM.access (Rect.unit (s := S15x64x384) ![0, 0, 256] S15x64x128.size inbB)) _ _ _ ?_).trans ?_
    · intro hmem
      obtain ⟨y, -, hy⟩ := Finset.mem_map.mp hmem
      have h2 : (256 + 1 * (y 2).val) = q.val := congrArg (fun i : S15x64x384.Idx => (i 2).val) hy
      omega
    · have h1 := View.write_emb_of_mem (v := sbM.access (Rect.unit (s := S15x64x384) ![0, 0, 0] S15x64x256.size inbA)) f (sbA m ρ c)
        (Finset.mem_univ (ix3 x p (⟨q.val, hq⟩ : Fin 256)))
      refine ((congrArg _ e.symm).trans h1).trans ?_
      exact (show sb m ρ c (ix3 x p q) = sbA m ρ c (ix3 x p (⟨q.val, hq⟩ : Fin 256)) from dif_pos hq).symm
  · have hq' : q.val - 256 < 128 := by omega
    have e : (Rect.unit (s := S15x64x384) ![0, 0, 256] S15x64x128.size inbB).emb (ix3 x p (⟨q.val - 256, hq'⟩ : Fin 128)) = ix3 x p q := by
      funext a
      match a with
      | ⟨0, _⟩ => apply Fin.ext; show 0 + 1 * x.val = x.val; omega
      | ⟨1, _⟩ => apply Fin.ext; show 0 + 1 * p.val = p.val; omega
      | ⟨2, _⟩ => apply Fin.ext; show 256 + 1 * (q.val - 256) = q.val; omega
    have h1 := View.write_emb_of_mem (v := sbM.access (Rect.unit (s := S15x64x384) ![0, 0, 256] S15x64x128.size inbB))
      ((sbM.access (Rect.unit (s := S15x64x384) ![0, 0, 0] S15x64x256.size inbA)).write (Elt F) f (sbA m ρ c) Finset.univ) (sbB m ρ c)
        (Finset.mem_univ (ix3 x p (⟨q.val - 256, hq'⟩ : Fin 128)))
    refine ((congrArg _ e.symm).trans h1).trans ?_
    exact (show sb m ρ c (ix3 x p q) = sbB m ρ c (ix3 x p (⟨q.val - 256, hq'⟩ : Fin 128)) from dif_neg hq).symm

/-- The packing of the dispatch rows: two stores, each after a load that is not used. -/
theorem step_pack {α : Type} {Q : α → sProp 𝕄} {inbA inbB hlA hlB hxA hxB hmA hmB}
    {wA : Vec F S15x64x256 .fp8e4m3} {wB : Vec F S15x64x128 .fp8e4m3} (hA : wA = sbA m ρ c) (hB : wB = sbB m ρ c)
    {ds₀ s₀' : ℕ} (hds : ds₀ = 0) (hs : s₀' = 0)
    {k : PUnit → Prog (TpuEff nD τ sig (Elt F) Λ₀ .tc) α}
    (h : St m ρ c K sg bw ds₀ dw rs' rw s₀' s2 1 rb ob ⊢ WP c (k ⟨⟩) Q) :
    St m ρ c K sg bw ds₀ dw rs' rw s₀' s2 0 rb ob
      ⊢ WP c (.op (.load sbM (Rect.unit (s := S15x64x384) ![0, 0, 0] S15x64x256.size inbA).toLoadRect hlA) fun _ =>
          .op (.store sbM (Rect.unit (s := S15x64x384) ![0, 0, 0] S15x64x256.size inbA) wA Finset.univ hxA hmA) fun _ =>
          .op (.load sbM (Rect.unit (s := S15x64x384) ![0, 0, 256] S15x64x128.size inbB).toLoadRect hlB) fun _ =>
          .op (.store sbM (Rect.unit (s := S15x64x384) ![0, 0, 256] S15x64x128.size inbB) wB Finset.univ hxB hmB) k) Q := by
  subst hA hB
  refine (St_pack m ρ K c hds hs).trans ?_
  iintro ⟨⟨%f, H⟩, Hk⟩
  iapply (wp_load 𝒱₀ (c : Thread nD τ) none Set.univ (m := sbM) (Finset.subset_univ _)) $$ [H]; · iexact H
  iintro H
  iapply (wp_store 𝒱₀ (c : Thread nD τ) none Set.univ (m := sbM) (r := Rect.unit (s := S15x64x384) ![0, 0, 0] S15x64x256.size inbA) (Mk := Finset.univ) (Finset.subset_univ _)) $$ [H]; · iexact H
  iintro H
  iapply (wp_load 𝒱₀ (c : Thread nD τ) none Set.univ (m := sbM) (Finset.subset_univ _)) $$ [H]; · iexact H
  iintro H
  iapply (wp_store 𝒱₀ (c : Thread nD τ) none Set.univ (m := sbM) (r := Rect.unit (s := S15x64x384) ![0, 0, 256] S15x64x128.size inbB) (Mk := Finset.univ) (Finset.subset_univ _)) $$ [H]; · iexact H
  iintro H
  ihave H := (Entails.of_eq (congrArg (fun v => whole c cc0_scratch0 v) (pack_eq m ρ c f inbA inbB))) $$ H
  iapply h
  iapply Hk; iexact H

end Access

end Cert.Moe

end
-- ==== Proof.Parts.lean ====
/-
# The kernel's parts

Each part of the kernel moves the state by the operations it makes.
-/
module

public import proofs.«01_k».proof.Proof.Access

@[expose] public section

noncomputable section

namespace Cert.Moe

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- The device the kernel computes for its `j`-th signal or send is peer `j`. -/
theorem dev_eq (c : Dev nD) (j : ℕ) (hj : j < 15) {n : ℕ} (hn : n < nD) (h : n = (c.val + (17 + j)) % 16) : (⟨n, hn⟩ : Dev nD) = peer c ⟨j, hj⟩ := by
  apply Fin.ext; show n = (c.val + j + 1) % 16; omega

/-- A piece that has nothing left to do. -/
theorem ret_step (c : Dev nD) {α : Type} {S : sProp 𝕄} {Q : α → sProp 𝕄} {v : α} (h : S ⊢ Q v) : S ⊢ WP c (.ret v) Q := by
  refine h.trans ?_
  unfold WP
  rw [wp_ret]
  iintro H; imodintro; iexact H

section Parts
variable (K : Dev nD × CI → ℕ) (c : Dev nD)
variable (h0 : xM.IsWhole) (h1 : rwM.IsWhole) (h2 : idxM.IsWhole) (h3 : ewM.IsWhole) (h4 : swM.IsWhole) (h5 : oM.IsWhole)
  (h6 : sbM.IsWhole) (h7 : dispM.IsWhole) (h8 : rsM.IsWhole) (h9 : respM.IsWhole)

theorem part1 {Q : (Σ' (d0 : Dev nD) (v2 : BitVec 32) (v3 : Sems sig S_) (v25 : BitVec 32), BitVec 32) → sProp 𝕄}
    (h : ∀ w w', St m ρ c K 4 0 0 0 0 0 0 0 0 0 0 ⊢ Q ⟨c, me c, SemArray.scalar (sig.barrier 0 rfl), w, w'⟩) :
    St m ρ c K 0 0 0 0 0 0 0 0 0 0 0 ⊢ WP c (k0_part1 (F := F) xM h0 rwM h1 idxM h2 ewM h3 swM h4 oM h5 sbM h6 dispM h7 rsM h8 respM h9 cc0_scratch4 cc0_scratch5 cc0_scratch6 cc0_scratch7) Q := by
  rw [k0_part1_eq_skeleton]; unfold k0_part1_skel
  simp only [semSignalWord, semWaitWord, Prog.lift, Prog.bind_op, Prog.bind_ret, Prog.pure_eq_ret, wp_deviceId]
  refine step_signal m ρ K c 0 (by decide) (dev_eq c 0 _ _ (k0_dev1_eq c)) ?_
  refine step_signal m ρ K c 1 (by decide) (dev_eq c 1 _ _ (k0_dev2_eq c)) ?_
  refine step_signal m ρ K c 2 (by decide) (dev_eq c 2 _ _ (k0_dev3_eq c)) ?_
  refine step_signal m ρ K c 3 (by decide) (dev_eq c 3 _ _ (k0_dev4_eq c)) ?_
  exact ret_step c (h _ _)

theorem part2 (u u' : BitVec 32) {Q : (Σ' (v50 : BitVec 32), BitVec 32) → sProp 𝕄}
    (h : ∀ w w', St m ρ c K 9 0 0 0 0 0 0 0 0 0 0 ⊢ Q ⟨w, w'⟩) :
    St m ρ c K 4 0 0 0 0 0 0 0 0 0 0 ⊢ WP c (k0_part2 (F := F) xM h0 rwM h1 idxM h2 ewM h3 swM h4 oM h5 sbM h6 dispM h7 rsM h8 respM h9 cc0_scratch4 cc0_scratch5 cc0_scratch6 cc0_scratch7 c (me c) (SemArray.scalar (sig.barrier 0 rfl)) u u') Q := by
  rw [k0_part2_eq_skeleton]; unfold k0_part2_skel
  simp only [semSignalWord, semWaitWord, Prog.lift, Prog.bind_op, Prog.bind_ret, Prog.pure_eq_ret, wp_deviceId]
  refine step_signal m ρ K c 4 (by decide) (dev_eq c 4 _ _ (k0_dev5_eq c)) ?_
  refine step_signal m ρ K c 5 (by decide) (dev_eq c 5 _ _ (k0_dev6_eq c)) ?_
  refine step_signal m ρ K c 6 (by decide) (dev_eq c 6 _ _ (k0_dev7_eq c)) ?_
  refine step_signal m ρ K c 7 (by decide) (dev_eq c 7 _ _ (k0_dev8_eq c)) ?_
  refine step_signal m ρ K c 8 (by decide) (dev_eq c 8 _ _ (k0_dev9_eq c)) ?_
  exact ret_step c (h _ _)

theorem part3 (u u' : BitVec 32) {Q : (Σ' (v75 : BitVec 32), BitVec 32) → sProp 𝕄}
    (h : ∀ w w', St m ρ c K 14 0 0 0 0 0 0 0 0 0 0 ⊢ Q ⟨w, w'⟩) :
    St m ρ c K 9 0 0 0 0 0 0 0 0 0 0 ⊢ WP c (k0_part3 (F := F) xM h0 rwM h1 idxM h2 ewM h3 swM h4 oM h5 sbM h6 dispM h7 rsM h8 respM h9 cc0_scratch4 cc0_scratch5 cc0_scratch6 cc0_scratch7 c (me c) (SemArray.scalar (sig.barrier 0 rfl)) u u') Q := by
  rw [k0_part3_eq_skeleton]; unfold k0_part3_skel
  simp only [semSignalWord, semWaitWord, Prog.lift, Prog.bind_op, Prog.bind_ret, Prog.pure_eq_ret, wp_deviceId]
  refine step_signal m ρ K c 9 (by decide) (dev_eq c 9 _ _ (k0_dev10_eq c)) ?_
  refine step_signal m ρ K c 10 (by decide) (dev_eq c 10 _ _ (k0_dev11_eq c)) ?_
  refine step_signal m ρ K c 11 (by decide) (dev_eq c 11 _ _ (k0_dev12_eq c)) ?_
  refine step_signal m ρ K c 12 (by decide) (dev_eq c 12 _ _ (k0_dev13_eq c)) ?_
  refine step_signal m ρ K c 13 (by decide) (dev_eq c 13 _ _ (k0_dev14_eq c)) ?_
  exact ret_step c (h _ _)

theorem part4 (u u' : BitVec 32) {Q : (Σ' (v80 : IVec S512x1 32) (v82 : IVec S512x1 32) (v86 : FVec F S512x1 .f32) (v88 : FVec F S512x256 .bf16) (v107 : FVec F S512x1 .f32) (v111 : FVec F S512x960 .f32) (v115 : IVec S512x960 32), IVec S512x960 32) → sProp 𝕄}
    (h : St m ρ c K 15 15 0 0 0 0 0 0 0 0 0 ⊢ Q ⟨k0_pay1 (F := F) (idxv m ρ c), destv m ρ c, elv m ρ c, xcv m ρ c, slotv m ρ c, k0_pay6, k0_pay7, k0_pay8 (me c)⟩) :
    St m ρ c K 14 0 0 0 0 0 0 0 0 0 0 ⊢ WP c (k0_part4 (F := F) xM h0 rwM h1 idxM h2 ewM h3 swM h4 oM h5 sbM h6 dispM h7 rsM h8 respM h9 cc0_scratch4 cc0_scratch5 cc0_scratch6 cc0_scratch7 c (me c) (SemArray.scalar (sig.barrier 0 rfl)) u u') Q := by
  rw [k0_part4_eq_skeleton]; unfold k0_part4_skel
  simp only [semSignalWord, semWaitWord, Prog.lift, Prog.bind_op, Prog.bind_ret, Prog.pure_eq_ret, wp_deviceId]
  refine step_signal m ρ K c 14 (by decide) (dev_eq c 14 _ _ (k0_dev15_eq c)) ?_
  refine step_barrier m ρ K c ?_
  refine step_ld_idx m ρ K c ?_
  refine step_ld_x m ρ K c ?_
  exact ret_step c h

theorem part5 {Q : (FVec F S512x960 .bf16) → sProp 𝕄}
    (h : St m ρ c K 15 15 0 0 0 0 0 0 1 0 0 ⊢ Q (ohv m ρ c)) :
    St m ρ c K 15 15 0 0 0 0 0 0 0 0 0 ⊢ WP c (k0_part5 (F := F) xM h0 rwM h1 idxM h2 ewM h3 swM h4 oM h5 sbM h6 dispM h7 rsM h8 respM h9 cc0_scratch4 cc0_scratch5 cc0_scratch6 cc0_scratch7 (me c) (destv m ρ c) (elv m ρ c) (xcv m ρ c) (slotv m ρ c) k0_pay6 k0_pay7 (k0_pay8 (me c))) Q := by
  rw [k0_part5_eq_skeleton]; unfold k0_part5_skel
  simp only [semSignalWord, semWaitWord, Prog.lift, Prog.bind_op, Prog.bind_ret, Prog.pure_eq_ret, wp_deviceId]
  refine step_pack m ρ K c rfl rfl rfl rfl ?_
  exact ret_step c h

theorem part6 {Q : (PUnit) → sProp 𝕄}
    (h : St m ρ c K 15 15 2 0 0 0 0 0 1 0 0 ⊢ Q ⟨⟩) :
    St m ρ c K 15 15 0 0 0 0 0 0 1 0 0 ⊢ WP c (k0_part6 (F := F) xM h0 rwM h1 idxM h2 ewM h3 swM h4 oM h5 sbM h6 dispM h7 rsM h8 respM h9 cc0_scratch4 cc0_scratch5 cc0_scratch6 cc0_scratch7 c (me c)) Q := by
  rw [k0_part6_eq_skeleton]; unfold k0_part6_skel
  simp only [semSignalWord, semWaitWord, Prog.lift, Prog.bind_op, Prog.bind_ret, Prog.pure_eq_ret, wp_deviceId]
  refine step_dsend m ρ K c 0 (by decide) rfl (dev_eq c 0 _ _ (k0_dev16_eq c)) (sem4_eq 0 _ _) (sem5_eq 14 _ _) ?_
  refine step_dsend m ρ K c 1 (by decide) rfl (dev_eq c 1 _ _ (k0_dev17_eq c)) (sem4_eq 1 _ _) (sem5_eq 13 _ _) ?_
  exact ret_step c h

theorem part7 {Q : (Σ' (v210 : BitVec 32), BitVec 32) → sProp 𝕄}
    (h : ∀ w w', St m ρ c K 15 15 5 0 0 0 0 0 1 0 0 ⊢ Q ⟨w, w'⟩) :
    St m ρ c K 15 15 2 0 0 0 0 0 1 0 0 ⊢ WP c (k0_part7 (F := F) xM h0 rwM h1 idxM h2 ewM h3 swM h4 oM h5 sbM h6 dispM h7 rsM h8 respM h9 cc0_scratch4 cc0_scratch5 cc0_scratch6 cc0_scratch7 c (me c)) Q := by
  rw [k0_part7_eq_skeleton]; unfold k0_part7_skel
  simp only [semSignalWord, semWaitWord, Prog.lift, Prog.bind_op, Prog.bind_ret, Prog.pure_eq_ret, wp_deviceId]
  refine step_dsend m ρ K c 2 (by decide) rfl (dev_eq c 2 _ _ (k0_dev18_eq c)) (sem4_eq 2 _ _) (sem5_eq 12 _ _) ?_
  refine step_dsend m ρ K c 3 (by decide) rfl (dev_eq c 3 _ _ (k0_dev19_eq c)) (sem4_eq 3 _ _) (sem5_eq 11 _ _) ?_
  refine step_dsend m ρ K c 4 (by decide) rfl (dev_eq c 4 _ _ (k0_dev20_eq c)) (sem4_eq 4 _ _) (sem5_eq 10 _ _) ?_
  exact ret_step c (h _ _)

theorem part8 (u u' : BitVec 32) {Q : (Σ' (v237 : BitVec 32), BitVec 32) → sProp 𝕄}
    (h : ∀ w w', St m ρ c K 15 15 7 0 0 0 0 0 1 0 0 ⊢ Q ⟨w, w'⟩) :
    St m ρ c K 15 15 5 0 0 0 0 0 1 0 0 ⊢ WP c (k0_part8 (F := F) xM h0 rwM h1 idxM h2 ewM h3 swM h4 oM h5 sbM h6 dispM h7 rsM h8 respM h9 cc0_scratch4 cc0_scratch5 cc0_scratch6 cc0_scratch7 c (me c) u u') Q := by
  rw [k0_part8_eq_skeleton]; unfold k0_part8_skel
  simp only [semSignalWord, semWaitWord, Prog.lift, Prog.bind_op, Prog.bind_ret, Prog.pure_eq_ret, wp_deviceId]
  refine step_dsend m ρ K c 5 (by decide) rfl (dev_eq c 5 _ _ (k0_dev21_eq c)) (sem4_eq 5 _ _) (sem5_eq 9 _ _) ?_
  refine step_dsend m ρ K c 6 (by decide) rfl (dev_eq c 6 _ _ (k0_dev22_eq c)) (sem4_eq 6 _ _) (sem5_eq 8 _ _) ?_
  exact ret_step c (h _ _)

theorem part9 (u u' : BitVec 32) {Q : (PUnit) → sProp 𝕄}
    (h : St m ρ c K 15 15 9 0 0 0 0 0 1 0 0 ⊢ Q ⟨⟩) :
    St m ρ c K 15 15 7 0 0 0 0 0 1 0 0 ⊢ WP c (k0_part9 (F := F) xM h0 rwM h1 idxM h2 ewM h3 swM h4 oM h5 sbM h6 dispM h7 rsM h8 respM h9 cc0_scratch4 cc0_scratch5 cc0_scratch6 cc0_scratch7 c (me c) u u') Q := by
  rw [k0_part9_eq_skeleton]; unfold k0_part9_skel
  simp only [semSignalWord, semWaitWord, Prog.lift, Prog.bind_op, Prog.bind_ret, Prog.pure_eq_ret, wp_deviceId]
  refine step_dsend m ρ K c 7 (by decide) rfl (dev_eq c 7 _ _ (k0_dev23_eq c)) (sem4_eq 7 _ _) (sem5_eq 7 _ _) ?_
  refine step_dsend m ρ K c 8 (by decide) rfl (dev_eq c 8 _ _ (k0_dev24_eq c)) (sem4_eq 8 _ _) (sem5_eq 6 _ _) ?_
  exact ret_step c h

theorem part10 {Q : (PUnit) → sProp 𝕄}
    (h : St m ρ c K 15 15 11 0 0 0 0 0 1 0 0 ⊢ Q ⟨⟩) :
    St m ρ c K 15 15 9 0 0 0 0 0 1 0 0 ⊢ WP c (k0_part10 (F := F) xM h0 rwM h1 idxM h2 ewM h3 swM h4 oM h5 sbM h6 dispM h7 rsM h8 respM h9 cc0_scratch4 cc0_scratch5 cc0_scratch6 cc0_scratch7 c (me c)) Q := by
  rw [k0_part10_eq_skeleton]; unfold k0_part10_skel
  simp only [semSignalWord, semWaitWord, Prog.lift, Prog.bind_op, Prog.bind_ret, Prog.pure_eq_ret, wp_deviceId]
  refine step_dsend m ρ K c 9 (by decide) rfl (dev_eq c 9 _ _ (k0_dev25_eq c)) (sem4_eq 9 _ _) (sem5_eq 5 _ _) ?_
  refine step_dsend m ρ K c 10 (by decide) rfl (dev_eq c 10 _ _ (k0_dev26_eq c)) (sem4_eq 10 _ _) (sem5_eq 4 _ _) ?_
  exact ret_step c h

theorem part11 {Q : (BitVec 32) → sProp 𝕄}
    (h : ∀ w, St m ρ c K 15 15 14 0 0 0 0 0 1 0 0 ⊢ Q w) :
    St m ρ c K 15 15 11 0 0 0 0 0 1 0 0 ⊢ WP c (k0_part11 (F := F) xM h0 rwM h1 idxM h2 ewM h3 swM h4 oM h5 sbM h6 dispM h7 rsM h8 respM h9 cc0_scratch4 cc0_scratch5 cc0_scratch6 cc0_scratch7 c (me c)) Q := by
  rw [k0_part11_eq_skeleton]; unfold k0_part11_skel
  simp only [semSignalWord, semWaitWord, Prog.lift, Prog.bind_op, Prog.bind_ret, Prog.pure_eq_ret, wp_deviceId]
  refine step_dsend m ρ K c 11 (by decide) rfl (dev_eq c 11 _ _ (k0_dev27_eq c)) (sem4_eq 11 _ _) (sem5_eq 3 _ _) ?_
  refine step_dsend m ρ K c 12 (by decide) rfl (dev_eq c 12 _ _ (k0_dev28_eq c)) (sem4_eq 12 _ _) (sem5_eq 2 _ _) ?_
  refine step_dsend m ρ K c 13 (by decide) rfl (dev_eq c 13 _ _ (k0_dev29_eq c)) (sem4_eq 13 _ _) (sem5_eq 1 _ _) ?_
  exact ret_step c (h _)

theorem part12 (u : BitVec 32) {Q : (Σ' (v340 : FVec F S256x512 .bf16) (v342 : FVec F S256x512 .bf16), BitVec 32) → sProp 𝕄}
    (h : ∀ w, St m ρ c K 15 15 15 1 0 0 0 0 1 0 0 ⊢ Q ⟨ew0v m ρ c, ew1v m ρ c, w⟩) :
    St m ρ c K 15 15 14 0 0 0 0 0 1 0 0 ⊢ WP c (k0_part12 (F := F) xM h0 rwM h1 idxM h2 ewM h3 swM h4 oM h5 sbM h6 dispM h7 rsM h8 respM h9 cc0_scratch4 cc0_scratch5 cc0_scratch6 cc0_scratch7 c (me c) u) Q := by
  rw [k0_part12_eq_skeleton]; unfold k0_part12_skel
  simp only [semSignalWord, semWaitWord, Prog.lift, Prog.bind_op, Prog.bind_ret, Prog.pure_eq_ret, wp_deviceId]
  refine step_dsend m ρ K c 14 (by decide) rfl (dev_eq c 14 _ _ (k0_dev30_eq c)) (sem4_eq 14 _ _) (sem5_eq 0 _ _) ?_
  refine step_ld_ew m ρ K c 0 (by decide) ?_
  refine step_ld_ew m ρ K c 1 (by decide) ?_
  refine step_dwait m ρ K c 0 0 0 (by decide) (sem5_eq 0 _ _) (disp_credit _ _) ?_
  exact ret_step c (h _)

theorem part13 (u : BitVec 32) {Q : (BitVec 32) → sProp 𝕄}
    (h : ∀ w, St m ρ c K 15 15 15 3 0 0 0 0 1 1 0 ⊢ Q w) :
    St m ρ c K 15 15 15 1 0 0 0 0 1 0 0 ⊢ WP c (k0_part13 (F := F) xM h0 rwM h1 idxM h2 ewM h3 swM h4 oM h5 sbM h6 dispM h7 rsM h8 respM h9 cc0_scratch4 cc0_scratch5 cc0_scratch6 cc0_scratch7 (me c) (ew0v m ρ c) (ew1v m ρ c) u) Q := by
  rw [k0_part13_eq_skeleton]; unfold k0_part13_skel
  simp only [semSignalWord, semWaitWord, Prog.lift, Prog.bind_op, Prog.bind_ret, Prog.pure_eq_ret, wp_deviceId]
  refine step_dwait m ρ K c 0 0 1 (by decide) (sem5_eq 1 _ _) (disp_credit _ _) ?_
  refine step_dwait m ρ K c 0 0 2 (by decide) (sem5_eq 2 _ _) (disp_credit _ _) ?_
  refine step_ld_disp m ρ K c 0 (by decide) rfl (by decide) ?_
  refine step_ld_rs m ρ K c 0 (by decide) rfl fun _ => ?_
  refine step_st_rs m ρ K c 0 (by decide) (by decide) rfl rfl ?_
  exact ret_step c (h _)

theorem part14 (u : BitVec 32) {Q : (BitVec 32) → sProp 𝕄}
    (h : ∀ w, St m ρ c K 15 15 15 3 2 0 0 0 1 1 0 ⊢ Q w) :
    St m ρ c K 15 15 15 3 0 0 0 0 1 1 0 ⊢ WP c (k0_part14 (F := F) xM h0 rwM h1 idxM h2 ewM h3 swM h4 oM h5 sbM h6 dispM h7 rsM h8 respM h9 cc0_scratch4 cc0_scratch5 cc0_scratch6 cc0_scratch7 c (me c) u) Q := by
  rw [k0_part14_eq_skeleton]; unfold k0_part14_skel
  simp only [semSignalWord, semWaitWord, Prog.lift, Prog.bind_op, Prog.bind_ret, Prog.pure_eq_ret, wp_deviceId]
  refine step_rsend m ρ K c 3 0 1 (by decide) (by decide) rfl (dev_eq c 0 _ _ (k0_dev31_eq c)) (sem6_eq 0 _ _) (sem7_eq 14 _ _) ?_
  refine step_rsend m ρ K c 3 1 1 (by decide) (by decide) rfl (dev_eq c 1 _ _ (k0_dev32_eq c)) (sem6_eq 1 _ _) (sem7_eq 13 _ _) ?_
  exact ret_step c (h _)

theorem part15 (u : BitVec 32) {Q : (PUnit) → sProp 𝕄}
    (h : St m ρ c K 15 15 15 5 3 0 0 0 1 1 0 ⊢ Q ⟨⟩) :
    St m ρ c K 15 15 15 3 2 0 0 0 1 1 0 ⊢ WP c (k0_part15 (F := F) xM h0 rwM h1 idxM h2 ewM h3 swM h4 oM h5 sbM h6 dispM h7 rsM h8 respM h9 cc0_scratch4 cc0_scratch5 cc0_scratch6 cc0_scratch7 c (me c) u) Q := by
  rw [k0_part15_eq_skeleton]; unfold k0_part15_skel
  simp only [semSignalWord, semWaitWord, Prog.lift, Prog.bind_op, Prog.bind_ret, Prog.pure_eq_ret, wp_deviceId]
  refine step_rsend m ρ K c 3 2 1 (by decide) (by decide) rfl (dev_eq c 2 _ _ (k0_dev33_eq c)) (sem6_eq 2 _ _) (sem7_eq 12 _ _) ?_
  refine step_dwait m ρ K c 3 1 3 (by decide) (sem5_eq 3 _ _) (disp_credit _ _) ?_
  refine step_dwait m ρ K c 3 1 4 (by decide) (sem5_eq 4 _ _) (disp_credit _ _) ?_
  exact ret_step c h

theorem part16 {Q : (PUnit) → sProp 𝕄}
    (h : St m ρ c K 15 15 15 6 3 0 0 0 1 2 0 ⊢ Q ⟨⟩) :
    St m ρ c K 15 15 15 5 3 0 0 0 1 1 0 ⊢ WP c (k0_part16 (F := F) xM h0 rwM h1 idxM h2 ewM h3 swM h4 oM h5 sbM h6 dispM h7 rsM h8 respM h9 cc0_scratch4 cc0_scratch5 cc0_scratch6 cc0_scratch7 (me c) (ew0v m ρ c) (ew1v m ρ c)) Q := by
  rw [k0_part16_eq_skeleton]; unfold k0_part16_skel
  simp only [semSignalWord, semWaitWord, Prog.lift, Prog.bind_op, Prog.bind_ret, Prog.pure_eq_ret, wp_deviceId]
  refine step_dwait m ρ K c 3 1 5 (by decide) (sem5_eq 5 _ _) (disp_credit _ _) ?_
  refine step_ld_disp m ρ K c 1 (by decide) rfl (by decide) ?_
  refine step_ld_rs m ρ K c 1 (by decide) rfl fun _ => ?_
  refine step_st_rs m ρ K c 1 (by decide) (by decide) rfl rfl ?_
  exact ret_step c h

theorem part17 {Q : (PUnit) → sProp 𝕄}
    (h : St m ρ c K 15 15 15 6 5 0 0 0 1 2 0 ⊢ Q ⟨⟩) :
    St m ρ c K 15 15 15 6 3 0 0 0 1 2 0 ⊢ WP c (k0_part17 (F := F) xM h0 rwM h1 idxM h2 ewM h3 swM h4 oM h5 sbM h6 dispM h7 rsM h8 respM h9 cc0_scratch4 cc0_scratch5 cc0_scratch6 cc0_scratch7 c (me c)) Q := by
  rw [k0_part17_eq_skeleton]; unfold k0_part17_skel
  simp only [semSignalWord, semWaitWord, Prog.lift, Prog.bind_op, Prog.bind_ret, Prog.pure_eq_ret, wp_deviceId]
  refine step_rsend m ρ K c 6 3 2 (by decide) (by decide) rfl (dev_eq c 3 _ _ (k0_dev34_eq c)) (sem6_eq 3 _ _) (sem7_eq 11 _ _) ?_
  refine step_rsend m ρ K c 6 4 2 (by decide) (by decide) rfl (dev_eq c 4 _ _ (k0_dev35_eq c)) (sem6_eq 4 _ _) (sem7_eq 10 _ _) ?_
  exact ret_step c h

theorem part18 {Q : (PUnit) → sProp 𝕄}
    (h : St m ρ c K 15 15 15 8 6 0 0 0 1 2 0 ⊢ Q ⟨⟩) :
    St m ρ c K 15 15 15 6 5 0 0 0 1 2 0 ⊢ WP c (k0_part18 (F := F) xM h0 rwM h1 idxM h2 ewM h3 swM h4 oM h5 sbM h6 dispM h7 rsM h8 respM h9 cc0_scratch4 cc0_scratch5 cc0_scratch6 cc0_scratch7 c (me c)) Q := by
  rw [k0_part18_eq_skeleton]; unfold k0_part18_skel
  simp only [semSignalWord, semWaitWord, Prog.lift, Prog.bind_op, Prog.bind_ret, Prog.pure_eq_ret, wp_deviceId]
  refine step_rsend m ρ K c 6 5 2 (by decide) (by decide) rfl (dev_eq c 5 _ _ (k0_dev36_eq c)) (sem6_eq 5 _ _) (sem7_eq 9 _ _) ?_
  refine step_dwait m ρ K c 6 2 6 (by decide) (sem5_eq 6 _ _) (disp_credit _ _) ?_
  refine step_dwait m ρ K c 6 2 7 (by decide) (sem5_eq 7 _ _) (disp_credit _ _) ?_
  exact ret_step c h

theorem part19 {Q : (BitVec 32) → sProp 𝕄}
    (h : ∀ w, St m ρ c K 15 15 15 9 7 0 0 0 1 3 0 ⊢ Q w) :
    St m ρ c K 15 15 15 8 6 0 0 0 1 2 0 ⊢ WP c (k0_part19 (F := F) xM h0 rwM h1 idxM h2 ewM h3 swM h4 oM h5 sbM h6 dispM h7 rsM h8 respM h9 cc0_scratch4 cc0_scratch5 cc0_scratch6 cc0_scratch7 c (me c) (ew0v m ρ c) (ew1v m ρ c)) Q := by
  rw [k0_part19_eq_skeleton]; unfold k0_part19_skel
  simp only [semSignalWord, semWaitWord, Prog.lift, Prog.bind_op, Prog.bind_ret, Prog.pure_eq_ret, wp_deviceId]
  refine step_dwait m ρ K c 6 2 8 (by decide) (sem5_eq 8 _ _) (disp_credit _ _) ?_
  refine step_ld_disp m ρ K c 2 (by decide) rfl (by decide) ?_
  refine step_ld_rs m ρ K c 2 (by decide) rfl fun _ => ?_
  refine step_st_rs m ρ K c 2 (by decide) (by decide) rfl rfl ?_
  refine step_rsend m ρ K c 9 6 3 (by decide) (by decide) rfl (dev_eq c 6 _ _ (k0_dev37_eq c)) (sem6_eq 6 _ _) (sem7_eq 8 _ _) ?_
  exact ret_step c (h _)

theorem part20 (u : BitVec 32) {Q : (PUnit) → sProp 𝕄}
    (h : St m ρ c K 15 15 15 9 9 0 0 0 1 3 0 ⊢ Q ⟨⟩) :
    St m ρ c K 15 15 15 9 7 0 0 0 1 3 0 ⊢ WP c (k0_part20 (F := F) xM h0 rwM h1 idxM h2 ewM h3 swM h4 oM h5 sbM h6 dispM h7 rsM h8 respM h9 cc0_scratch4 cc0_scratch5 cc0_scratch6 cc0_scratch7 c (me c) u) Q := by
  rw [k0_part20_eq_skeleton]; unfold k0_part20_skel
  simp only [semSignalWord, semWaitWord, Prog.lift, Prog.bind_op, Prog.bind_ret, Prog.pure_eq_ret, wp_deviceId]
  refine step_rsend m ρ K c 9 7 3 (by decide) (by decide) rfl (dev_eq c 7 _ _ (k0_dev38_eq c)) (sem6_eq 7 _ _) (sem7_eq 7 _ _) ?_
  refine step_rsend m ρ K c 9 8 3 (by decide) (by decide) rfl (dev_eq c 8 _ _ (k0_dev39_eq c)) (sem6_eq 8 _ _) (sem7_eq 6 _ _) ?_
  exact ret_step c h

theorem part21 {Q : (Σ' (v611 : FVec F S192x1 .bf16) (v612 : FVec F S192x512 .f32) (v613 : FVec F S192x512 .f32), F .bf16) → sProp 𝕄}
    (h : St m ρ c K 15 15 15 12 9 0 0 0 1 3 0 ⊢ Q ⟨k0_pay19 (three (disp m ρ c) 3 (by decide)), k0_pay20 (ew0v m ρ c) (three (disp m ρ c) 3 (by decide)), k0_pay21 (ew1v m ρ c) (three (disp m ρ c) 3 (by decide)), Scalar.ofBits .bf16 0x3F00#16⟩) :
    St m ρ c K 15 15 15 9 9 0 0 0 1 3 0 ⊢ WP c (k0_part21 (F := F) xM h0 rwM h1 idxM h2 ewM h3 swM h4 oM h5 sbM h6 dispM h7 rsM h8 respM h9 cc0_scratch4 cc0_scratch5 cc0_scratch6 cc0_scratch7 (me c) (ew0v m ρ c) (ew1v m ρ c)) Q := by
  rw [k0_part21_eq_skeleton]; unfold k0_part21_skel
  simp only [semSignalWord, semWaitWord, Prog.lift, Prog.bind_op, Prog.bind_ret, Prog.pure_eq_ret, wp_deviceId]
  refine step_dwait m ρ K c 9 3 9 (by decide) (sem5_eq 9 _ _) (disp_credit _ _) ?_
  refine step_dwait m ρ K c 9 3 10 (by decide) (sem5_eq 10 _ _) (disp_credit _ _) ?_
  refine step_dwait m ρ K c 9 3 11 (by decide) (sem5_eq 11 _ _) (disp_credit _ _) ?_
  refine step_ld_disp m ρ K c 3 (by decide) rfl (by decide) ?_
  exact ret_step c h

theorem part22 {Q : (PUnit) → sProp 𝕄}
    (h : St m ρ c K 15 15 15 12 10 0 0 0 1 4 0 ⊢ Q ⟨⟩) :
    St m ρ c K 15 15 15 12 9 0 0 0 1 3 0 ⊢ WP c (k0_part22 (F := F) xM h0 rwM h1 idxM h2 ewM h3 swM h4 oM h5 sbM h6 dispM h7 rsM h8 respM h9 cc0_scratch4 cc0_scratch5 cc0_scratch6 cc0_scratch7 c (me c) (k0_pay19 (three (disp m ρ c) 3 (by decide))) (k0_pay20 (ew0v m ρ c) (three (disp m ρ c) 3 (by decide))) (k0_pay21 (ew1v m ρ c) (three (disp m ρ c) 3 (by decide))) (Scalar.ofBits .bf16 0x3F00#16)) Q := by
  rw [k0_part22_eq_skeleton]; unfold k0_part22_skel
  simp only [semSignalWord, semWaitWord, Prog.lift, Prog.bind_op, Prog.bind_ret, Prog.pure_eq_ret, wp_deviceId]
  refine step_ld_rs m ρ K c 3 (by decide) rfl fun _ => ?_
  refine step_st_rs m ρ K c 3 (by decide) (by decide) rfl rfl ?_
  refine step_rsend m ρ K c 12 9 4 (by decide) (by decide) rfl (dev_eq c 9 _ _ (k0_dev40_eq c)) (sem6_eq 9 _ _) (sem7_eq 5 _ _) ?_
  exact ret_step c h

theorem part23 {Q : (BitVec 32) → sProp 𝕄}
    (h : ∀ w, St m ρ c K 15 15 15 13 12 0 0 0 1 4 0 ⊢ Q w) :
    St m ρ c K 15 15 15 12 10 0 0 0 1 4 0 ⊢ WP c (k0_part23 (F := F) xM h0 rwM h1 idxM h2 ewM h3 swM h4 oM h5 sbM h6 dispM h7 rsM h8 respM h9 cc0_scratch4 cc0_scratch5 cc0_scratch6 cc0_scratch7 c (me c)) Q := by
  rw [k0_part23_eq_skeleton]; unfold k0_part23_skel
  simp only [semSignalWord, semWaitWord, Prog.lift, Prog.bind_op, Prog.bind_ret, Prog.pure_eq_ret, wp_deviceId]
  refine step_rsend m ρ K c 12 10 4 (by decide) (by decide) rfl (dev_eq c 10 _ _ (k0_dev41_eq c)) (sem6_eq 10 _ _) (sem7_eq 4 _ _) ?_
  refine step_rsend m ρ K c 12 11 4 (by decide) (by decide) rfl (dev_eq c 11 _ _ (k0_dev42_eq c)) (sem6_eq 11 _ _) (sem7_eq 3 _ _) ?_
  refine step_dwait m ρ K c 12 4 12 (by decide) (sem5_eq 12 _ _) (disp_credit _ _) ?_
  exact ret_step c (h _)

theorem part24 (u : BitVec 32) {Q : (BitVec 32) → sProp 𝕄}
    (h : ∀ w, St m ρ c K 15 15 15 15 12 0 0 0 1 5 0 ⊢ Q w) :
    St m ρ c K 15 15 15 13 12 0 0 0 1 4 0 ⊢ WP c (k0_part24 (F := F) xM h0 rwM h1 idxM h2 ewM h3 swM h4 oM h5 sbM h6 dispM h7 rsM h8 respM h9 cc0_scratch4 cc0_scratch5 cc0_scratch6 cc0_scratch7 (me c) (ew0v m ρ c) (ew1v m ρ c) u) Q := by
  rw [k0_part24_eq_skeleton]; unfold k0_part24_skel
  simp only [semSignalWord, semWaitWord, Prog.lift, Prog.bind_op, Prog.bind_ret, Prog.pure_eq_ret, wp_deviceId]
  refine step_dwait m ρ K c 12 4 13 (by decide) (sem5_eq 13 _ _) (disp_credit _ _) ?_
  refine step_dwait m ρ K c 12 4 14 (by decide) (sem5_eq 14 _ _) (disp_credit _ _) ?_
  refine step_ld_disp m ρ K c 4 (by decide) rfl (by decide) ?_
  refine step_ld_rs m ρ K c 4 (by decide) rfl fun _ => ?_
  refine step_st_rs m ρ K c 4 (by decide) (by decide) rfl rfl ?_
  exact ret_step c (h _)

theorem part25 (u : BitVec 32) {Q : (BitVec 32) → sProp 𝕄}
    (h : ∀ w, St m ρ c K 15 15 15 15 14 0 0 0 1 5 0 ⊢ Q w) :
    St m ρ c K 15 15 15 15 12 0 0 0 1 5 0 ⊢ WP c (k0_part25 (F := F) xM h0 rwM h1 idxM h2 ewM h3 swM h4 oM h5 sbM h6 dispM h7 rsM h8 respM h9 cc0_scratch4 cc0_scratch5 cc0_scratch6 cc0_scratch7 c (me c) u) Q := by
  rw [k0_part25_eq_skeleton]; unfold k0_part25_skel
  simp only [semSignalWord, semWaitWord, Prog.lift, Prog.bind_op, Prog.bind_ret, Prog.pure_eq_ret, wp_deviceId]
  refine step_rsend m ρ K c 15 12 5 (by decide) (by decide) rfl (dev_eq c 12 _ _ (k0_dev43_eq c)) (sem6_eq 12 _ _) (sem7_eq 2 _ _) ?_
  refine step_rsend m ρ K c 15 13 5 (by decide) (by decide) rfl (dev_eq c 13 _ _ (k0_dev44_eq c)) (sem6_eq 13 _ _) (sem7_eq 1 _ _) ?_
  exact ret_step c (h _)

theorem part26 (u : BitVec 32) {Q : (Σ' (v763 : FVec F S512x1 .f32), FVec F S512x512 .f32) → sProp 𝕄}
    (h : St m ρ c K 15 15 15 15 15 0 0 0 1 5 0 ⊢ Q ⟨pv m ρ c, locv m ρ c⟩) :
    St m ρ c K 15 15 15 15 14 0 0 0 1 5 0 ⊢ WP c (k0_part26 (F := F) xM h0 rwM h1 idxM h2 ewM h3 swM h4 oM h5 sbM h6 dispM h7 rsM h8 respM h9 cc0_scratch4 cc0_scratch5 cc0_scratch6 cc0_scratch7 c (k0_pay1 (F := F) (idxv m ρ c)) (elv m ρ c) (xcv m ρ c) (ew0v m ρ c) (ew1v m ρ c) u) Q := by
  rw [k0_part26_eq_skeleton]; unfold k0_part26_skel
  simp only [semSignalWord, semWaitWord, Prog.lift, Prog.bind_op, Prog.bind_ret, Prog.pure_eq_ret, wp_deviceId]
  refine step_rsend m ρ K c 15 14 5 (by decide) (by decide) rfl (dev_eq c 14 _ _ (k0_dev45_eq c)) (sem6_eq 14 _ _) (sem7_eq 0 _ _) ?_
  refine step_ld_x m ρ K c ?_
  refine step_ld_rw m ρ K c ?_
  exact ret_step c h

theorem part27 {Q : (FVec F S512x512 .f32) → sProp 𝕄}
    (h : St m ρ c K 15 15 15 15 15 2 0 0 1 5 0 ⊢ Q (acc0 m ρ c)) :
    St m ρ c K 15 15 15 15 15 0 0 0 1 5 0 ⊢ WP c (k0_part27 (F := F) xM h0 rwM h1 idxM h2 ewM h3 swM h4 oM h5 sbM h6 dispM h7 rsM h8 respM h9 cc0_scratch4 cc0_scratch5 cc0_scratch6 cc0_scratch7 (me c) (destv m ρ c) (locv m ρ c)) Q := by
  rw [k0_part27_eq_skeleton]; unfold k0_part27_skel
  simp only [semSignalWord, semWaitWord, Prog.lift, Prog.bind_op, Prog.bind_ret, Prog.pure_eq_ret, wp_deviceId]
  refine step_rwait m ρ K c 0 (by decide) (sem7_eq 0 _ _) (resp_credit _ _) ?_
  refine step_rwait m ρ K c 1 (by decide) (sem7_eq 1 _ _) (resp_credit _ _) ?_
  exact ret_step c h

theorem part28 {Q : (Σ' (v807 : FVec F S512x512 .f32), BitVec 32) → sProp 𝕄}
    (h : ∀ w, St m ρ c K 15 15 15 15 15 5 0 0 1 5 0 ⊢ Q ⟨acc1 m ρ c, w⟩) :
    St m ρ c K 15 15 15 15 15 2 0 0 1 5 0 ⊢ WP c (k0_part28 (F := F) xM h0 rwM h1 idxM h2 ewM h3 swM h4 oM h5 sbM h6 dispM h7 rsM h8 respM h9 cc0_scratch4 cc0_scratch5 cc0_scratch6 cc0_scratch7 (me c) (ohv m ρ c) (acc0 m ρ c)) Q := by
  rw [k0_part28_eq_skeleton]; unfold k0_part28_skel
  simp only [semSignalWord, semWaitWord, Prog.lift, Prog.bind_op, Prog.bind_ret, Prog.pure_eq_ret, wp_deviceId]
  refine step_rwait m ρ K c 2 (by decide) (sem7_eq 2 _ _) (resp_credit _ _) ?_
  refine step_ld_resp m ρ K c 0 (by decide) rfl (by decide) ?_
  refine step_rwait m ρ K c 3 (by decide) (sem7_eq 3 _ _) (resp_credit _ _) ?_
  refine step_rwait m ρ K c 4 (by decide) (sem7_eq 4 _ _) (resp_credit _ _) ?_
  exact ret_step c (h _)

theorem part29 (u : BitVec 32) {Q : (FVec F S512x512 .f32) → sProp 𝕄}
    (h : St m ρ c K 15 15 15 15 15 7 0 0 1 5 0 ⊢ Q (acc2 m ρ c)) :
    St m ρ c K 15 15 15 15 15 5 0 0 1 5 0 ⊢ WP c (k0_part29 (F := F) xM h0 rwM h1 idxM h2 ewM h3 swM h4 oM h5 sbM h6 dispM h7 rsM h8 respM h9 cc0_scratch4 cc0_scratch5 cc0_scratch6 cc0_scratch7 (me c) (ohv m ρ c) (acc1 m ρ c) u) Q := by
  rw [k0_part29_eq_skeleton]; unfold k0_part29_skel
  simp only [semSignalWord, semWaitWord, Prog.lift, Prog.bind_op, Prog.bind_ret, Prog.pure_eq_ret, wp_deviceId]
  refine step_rwait m ρ K c 5 (by decide) (sem7_eq 5 _ _) (resp_credit _ _) ?_
  refine step_ld_resp m ρ K c 1 (by decide) rfl (by decide) ?_
  refine step_rwait m ρ K c 6 (by decide) (sem7_eq 6 _ _) (resp_credit _ _) ?_
  exact ret_step c h

theorem part30 {Q : (FVec F S512x512 .f32) → sProp 𝕄}
    (h : St m ρ c K 15 15 15 15 15 10 0 0 1 5 0 ⊢ Q (acc3 m ρ c)) :
    St m ρ c K 15 15 15 15 15 7 0 0 1 5 0 ⊢ WP c (k0_part30 (F := F) xM h0 rwM h1 idxM h2 ewM h3 swM h4 oM h5 sbM h6 dispM h7 rsM h8 respM h9 cc0_scratch4 cc0_scratch5 cc0_scratch6 cc0_scratch7 (me c) (ohv m ρ c) (acc2 m ρ c)) Q := by
  rw [k0_part30_eq_skeleton]; unfold k0_part30_skel
  simp only [semSignalWord, semWaitWord, Prog.lift, Prog.bind_op, Prog.bind_ret, Prog.pure_eq_ret, wp_deviceId]
  refine step_rwait m ρ K c 7 (by decide) (sem7_eq 7 _ _) (resp_credit _ _) ?_
  refine step_rwait m ρ K c 8 (by decide) (sem7_eq 8 _ _) (resp_credit _ _) ?_
  refine step_ld_resp m ρ K c 2 (by decide) rfl (by decide) ?_
  refine step_rwait m ρ K c 9 (by decide) (sem7_eq 9 _ _) (resp_credit _ _) ?_
  exact ret_step c h

theorem part31 {Q : (FVec F S512x512 .f32) → sProp 𝕄}
    (h : St m ρ c K 15 15 15 15 15 13 0 0 1 5 0 ⊢ Q (acc4 m ρ c)) :
    St m ρ c K 15 15 15 15 15 10 0 0 1 5 0 ⊢ WP c (k0_part31 (F := F) xM h0 rwM h1 idxM h2 ewM h3 swM h4 oM h5 sbM h6 dispM h7 rsM h8 respM h9 cc0_scratch4 cc0_scratch5 cc0_scratch6 cc0_scratch7 (me c) (ohv m ρ c) (acc3 m ρ c)) Q := by
  rw [k0_part31_eq_skeleton]; unfold k0_part31_skel
  simp only [semSignalWord, semWaitWord, Prog.lift, Prog.bind_op, Prog.bind_ret, Prog.pure_eq_ret, wp_deviceId]
  refine step_rwait m ρ K c 10 (by decide) (sem7_eq 10 _ _) (resp_credit _ _) ?_
  refine step_rwait m ρ K c 11 (by decide) (sem7_eq 11 _ _) (resp_credit _ _) ?_
  refine step_ld_resp m ρ K c 3 (by decide) rfl (by decide) ?_
  refine step_rwait m ρ K c 12 (by decide) (sem7_eq 12 _ _) (resp_credit _ _) ?_
  exact ret_step c h

theorem part32 {Q : (PUnit) → sProp 𝕄}
    (h : St m ρ c K 15 15 15 15 15 15 0 0 1 5 1 ⊢ Q ⟨⟩) :
    St m ρ c K 15 15 15 15 15 13 0 0 1 5 0 ⊢ WP c (k0_part32 (F := F) xM h0 rwM h1 idxM h2 ewM h3 swM h4 oM h5 sbM h6 dispM h7 rsM h8 respM h9 cc0_scratch4 cc0_scratch5 cc0_scratch6 cc0_scratch7 (me c) (xcv m ρ c) (ohv m ρ c) (pv m ρ c) (acc4 m ρ c)) Q := by
  rw [k0_part32_eq_skeleton]; unfold k0_part32_skel
  simp only [semSignalWord, semWaitWord, Prog.lift, Prog.bind_op, Prog.bind_ret, Prog.pure_eq_ret, wp_deviceId]
  refine step_rwait m ρ K c 13 (by decide) (sem7_eq 13 _ _) (resp_credit _ _) ?_
  refine step_rwait m ρ K c 14 (by decide) (sem7_eq 14 _ _) (resp_credit _ _) ?_
  refine step_ld_resp m ρ K c 4 (by decide) rfl (by decide) ?_
  refine step_ld_sw m ρ K c ?_
  refine step_ld_out m ρ K c fun _ => ?_
  refine step_st_out m ρ K c rfl ?_
  exact ret_step c h

theorem part33 {Q : (PUnit) → sProp 𝕄}
    (h : St m ρ c K 15 15 15 15 15 15 2 1 1 5 1 ⊢ Q ⟨⟩) :
    St m ρ c K 15 15 15 15 15 15 0 0 1 5 1 ⊢ WP c (k0_part33 (F := F) xM h0 rwM h1 idxM h2 ewM h3 swM h4 oM h5 sbM h6 dispM h7 rsM h8 respM h9 cc0_scratch4 cc0_scratch5 cc0_scratch6 cc0_scratch7) Q := by
  rw [k0_part33_eq_skeleton]; unfold k0_part33_skel
  simp only [semSignalWord, semWaitWord, Prog.lift, Prog.bind_op, Prog.bind_ret, Prog.pure_eq_ret, wp_deviceId]
  refine step_swait m ρ K c 0 0 (by decide) (sem4_eq 0 _ _) (sb_credit _ _) ?_
  refine step_await m ρ K c 1 0 (by decide) (sem6_eq 0 _ _) (rs_credit _ _) ?_
  refine step_swait m ρ K c 1 1 (by decide) (sem4_eq 1 _ _) (sb_credit _ _) ?_
  exact ret_step c h

theorem part34 {Q : (PUnit) → sProp 𝕄}
    (h : St m ρ c K 15 15 15 15 15 15 4 3 1 5 1 ⊢ Q ⟨⟩) :
    St m ρ c K 15 15 15 15 15 15 2 1 1 5 1 ⊢ WP c (k0_part34 (F := F) xM h0 rwM h1 idxM h2 ewM h3 swM h4 oM h5 sbM h6 dispM h7 rsM h8 respM h9 cc0_scratch4 cc0_scratch5 cc0_scratch6 cc0_scratch7) Q := by
  rw [k0_part34_eq_skeleton]; unfold k0_part34_skel
  simp only [semSignalWord, semWaitWord, Prog.lift, Prog.bind_op, Prog.bind_ret, Prog.pure_eq_ret, wp_deviceId]
  refine step_await m ρ K c 2 1 (by decide) (sem6_eq 1 _ _) (rs_credit _ _) ?_
  refine step_swait m ρ K c 2 2 (by decide) (sem4_eq 2 _ _) (sb_credit _ _) ?_
  refine step_await m ρ K c 3 2 (by decide) (sem6_eq 2 _ _) (rs_credit _ _) ?_
  refine step_swait m ρ K c 3 3 (by decide) (sem4_eq 3 _ _) (sb_credit _ _) ?_
  exact ret_step c h

theorem part35 {Q : (PUnit) → sProp 𝕄}
    (h : St m ρ c K 15 15 15 15 15 15 6 5 1 5 1 ⊢ Q ⟨⟩) :
    St m ρ c K 15 15 15 15 15 15 4 3 1 5 1 ⊢ WP c (k0_part35 (F := F) xM h0 rwM h1 idxM h2 ewM h3 swM h4 oM h5 sbM h6 dispM h7 rsM h8 respM h9 cc0_scratch4 cc0_scratch5 cc0_scratch6 cc0_scratch7) Q := by
  rw [k0_part35_eq_skeleton]; unfold k0_part35_skel
  simp only [semSignalWord, semWaitWord, Prog.lift, Prog.bind_op, Prog.bind_ret, Prog.pure_eq_ret, wp_deviceId]
  refine step_await m ρ K c 4 3 (by decide) (sem6_eq 3 _ _) (rs_credit _ _) ?_
  refine step_swait m ρ K c 4 4 (by decide) (sem4_eq 4 _ _) (sb_credit _ _) ?_
  refine step_await m ρ K c 5 4 (by decide) (sem6_eq 4 _ _) (rs_credit _ _) ?_
  refine step_swait m ρ K c 5 5 (by decide) (sem4_eq 5 _ _) (sb_credit _ _) ?_
  exact ret_step c h

theorem part36 {Q : (PUnit) → sProp 𝕄}
    (h : St m ρ c K 15 15 15 15 15 15 8 7 1 5 1 ⊢ Q ⟨⟩) :
    St m ρ c K 15 15 15 15 15 15 6 5 1 5 1 ⊢ WP c (k0_part36 (F := F) xM h0 rwM h1 idxM h2 ewM h3 swM h4 oM h5 sbM h6 dispM h7 rsM h8 respM h9 cc0_scratch4 cc0_scratch5 cc0_scratch6 cc0_scratch7) Q := by
  rw [k0_part36_eq_skeleton]; unfold k0_part36_skel
  simp only [semSignalWord, semWaitWord, Prog.lift, Prog.bind_op, Prog.bind_ret, Prog.pure_eq_ret, wp_deviceId]
  refine step_await m ρ K c 6 5 (by decide) (sem6_eq 5 _ _) (rs_credit _ _) ?_
  refine step_swait m ρ K c 6 6 (by decide) (sem4_eq 6 _ _) (sb_credit _ _) ?_
  refine step_await m ρ K c 7 6 (by decide) (sem6_eq 6 _ _) (rs_credit _ _) ?_
  refine step_swait m ρ K c 7 7 (by decide) (sem4_eq 7 _ _) (sb_credit _ _) ?_
  exact ret_step c h

theorem part37 {Q : (PUnit) → sProp 𝕄}
    (h : St m ρ c K 15 15 15 15 15 15 9 9 1 5 1 ⊢ Q ⟨⟩) :
    St m ρ c K 15 15 15 15 15 15 8 7 1 5 1 ⊢ WP c (k0_part37 (F := F) xM h0 rwM h1 idxM h2 ewM h3 swM h4 oM h5 sbM h6 dispM h7 rsM h8 respM h9 cc0_scratch4 cc0_scratch5 cc0_scratch6 cc0_scratch7) Q := by
  rw [k0_part37_eq_skeleton]; unfold k0_part37_skel
  simp only [semSignalWord, semWaitWord, Prog.lift, Prog.bind_op, Prog.bind_ret, Prog.pure_eq_ret, wp_deviceId]
  refine step_await m ρ K c 8 7 (by decide) (sem6_eq 7 _ _) (rs_credit _ _) ?_
  refine step_swait m ρ K c 8 8 (by decide) (sem4_eq 8 _ _) (sb_credit _ _) ?_
  refine step_await m ρ K c 9 8 (by decide) (sem6_eq 8 _ _) (rs_credit _ _) ?_
  exact ret_step c h

theorem part38 {Q : (PUnit) → sProp 𝕄}
    (h : St m ρ c K 15 15 15 15 15 15 11 11 1 5 1 ⊢ Q ⟨⟩) :
    St m ρ c K 15 15 15 15 15 15 9 9 1 5 1 ⊢ WP c (k0_part38 (F := F) xM h0 rwM h1 idxM h2 ewM h3 swM h4 oM h5 sbM h6 dispM h7 rsM h8 respM h9 cc0_scratch4 cc0_scratch5 cc0_scratch6 cc0_scratch7) Q := by
  rw [k0_part38_eq_skeleton]; unfold k0_part38_skel
  simp only [semSignalWord, semWaitWord, Prog.lift, Prog.bind_op, Prog.bind_ret, Prog.pure_eq_ret, wp_deviceId]
  refine step_swait m ρ K c 9 9 (by decide) (sem4_eq 9 _ _) (sb_credit _ _) ?_
  refine step_await m ρ K c 10 9 (by decide) (sem6_eq 9 _ _) (rs_credit _ _) ?_
  refine step_swait m ρ K c 10 10 (by decide) (sem4_eq 10 _ _) (sb_credit _ _) ?_
  refine step_await m ρ K c 11 10 (by decide) (sem6_eq 10 _ _) (rs_credit _ _) ?_
  exact ret_step c h

theorem part39 {Q : (PUnit) → sProp 𝕄}
    (h : St m ρ c K 15 15 15 15 15 15 13 13 1 5 1 ⊢ Q ⟨⟩) :
    St m ρ c K 15 15 15 15 15 15 11 11 1 5 1 ⊢ WP c (k0_part39 (F := F) xM h0 rwM h1 idxM h2 ewM h3 swM h4 oM h5 sbM h6 dispM h7 rsM h8 respM h9 cc0_scratch4 cc0_scratch5 cc0_scratch6 cc0_scratch7) Q := by
  rw [k0_part39_eq_skeleton]; unfold k0_part39_skel
  simp only [semSignalWord, semWaitWord, Prog.lift, Prog.bind_op, Prog.bind_ret, Prog.pure_eq_ret, wp_deviceId]
  refine step_swait m ρ K c 11 11 (by decide) (sem4_eq 11 _ _) (sb_credit _ _) ?_
  refine step_await m ρ K c 12 11 (by decide) (sem6_eq 11 _ _) (rs_credit _ _) ?_
  refine step_swait m ρ K c 12 12 (by decide) (sem4_eq 12 _ _) (sb_credit _ _) ?_
  refine step_await m ρ K c 13 12 (by decide) (sem6_eq 12 _ _) (rs_credit _ _) ?_
  exact ret_step c h

end Parts

end Cert.Moe

end
-- ==== Proof.Body.lean ====
/-
# The kernel's body

The parts in order, from the state in which nothing has been done to the one in which everything has.
-/
module

public import proofs.«01_k».proof.Proof.Parts

@[expose] public section

noncomputable section

namespace Cert.Moe

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- A piece followed by the rest. -/
theorem bind_step (c : Dev nD) {α β : Type} {S : sProp 𝕄} {Q : β → sProp 𝕄} {p : Prog (TpuEff nD τ sig (Elt F) Λ₀ .tc) α}
    {k : α → Prog (TpuEff nD τ sig (Elt F) Λ₀ .tc) β} (h : S ⊢ WP c p (fun v => WP c (k v) Q)) : S ⊢ WP c (p >>= k) Q := by
  unfold WP at h ⊢
  rw [wp_bind]; exact h

section Body
variable (K : Dev nD × CI → ℕ) (c : Dev nD)
variable (h0 : xM.IsWhole) (h1 : rwM.IsWhole) (h2 : idxM.IsWhole) (h3 : ewM.IsWhole) (h4 : swM.IsWhole) (h5 : oM.IsWhole)
  (h6 : sbM.IsWhole) (h7 : dispM.IsWhole) (h8 : rsM.IsWhole) (h9 : respM.IsWhole)

theorem part40 {Q : PUnit → sProp 𝕄} (h : St m ρ c K 15 15 15 15 15 15 14 13 1 5 1 ⊢ Q ⟨⟩) :
    St m ρ c K 0 0 0 0 0 0 0 0 0 0 0 ⊢ WP c (k0_part40 (F := F) xM h0 rwM h1 idxM h2 ewM h3 swM h4 oM h5 sbM h6 dispM h7 rsM h8 respM h9 cc0_scratch4 cc0_scratch5 cc0_scratch6 cc0_scratch7) Q := by
  rw [k0_part40_eq_skeleton]; unfold k0_part40_skel
  refine bind_step c ?_; refine part1 m ρ K c h0 h1 h2 h3 h4 h5 h6 h7 h8 h9 (fun _ _ => ?_)
  refine bind_step c ?_; refine part2 m ρ K c h0 h1 h2 h3 h4 h5 h6 h7 h8 h9 _ _ (fun _ _ => ?_)
  refine bind_step c ?_; refine part3 m ρ K c h0 h1 h2 h3 h4 h5 h6 h7 h8 h9 _ _ (fun _ _ => ?_)
  refine bind_step c ?_; refine part4 m ρ K c h0 h1 h2 h3 h4 h5 h6 h7 h8 h9 _ _ ?_
  refine bind_step c ?_; refine part5 m ρ K c h0 h1 h2 h3 h4 h5 h6 h7 h8 h9 ?_
  refine bind_step c ?_; refine part6 m ρ K c h0 h1 h2 h3 h4 h5 h6 h7 h8 h9 ?_
  refine bind_step c ?_; refine part7 m ρ K c h0 h1 h2 h3 h4 h5 h6 h7 h8 h9 (fun _ _ => ?_)
  refine bind_step c ?_; refine part8 m ρ K c h0 h1 h2 h3 h4 h5 h6 h7 h8 h9 _ _ (fun _ _ => ?_)
  refine bind_step c ?_; refine part9 m ρ K c h0 h1 h2 h3 h4 h5 h6 h7 h8 h9 _ _ ?_
  refine bind_step c ?_; refine part10 m ρ K c h0 h1 h2 h3 h4 h5 h6 h7 h8 h9 ?_
  refine bind_step c ?_; refine part11 m ρ K c h0 h1 h2 h3 h4 h5 h6 h7 h8 h9 (fun _ => ?_)
  refine bind_step c ?_; refine part12 m ρ K c h0 h1 h2 h3 h4 h5 h6 h7 h8 h9 _ (fun _ => ?_)
  refine bind_step c ?_; refine part13 m ρ K c h0 h1 h2 h3 h4 h5 h6 h7 h8 h9 _ (fun _ => ?_)
  refine bind_step c ?_; refine part14 m ρ K c h0 h1 h2 h3 h4 h5 h6 h7 h8 h9 _ (fun _ => ?_)
  refine bind_step c ?_; refine part15 m ρ K c h0 h1 h2 h3 h4 h5 h6 h7 h8 h9 _ ?_
  refine bind_step c ?_; refine part16 m ρ K c h0 h1 h2 h3 h4 h5 h6 h7 h8 h9 ?_
  refine bind_step c ?_; refine part17 m ρ K c h0 h1 h2 h3 h4 h5 h6 h7 h8 h9 ?_
  refine bind_step c ?_; refine part18 m ρ K c h0 h1 h2 h3 h4 h5 h6 h7 h8 h9 ?_
  refine bind_step c ?_; refine part19 m ρ K c h0 h1 h2 h3 h4 h5 h6 h7 h8 h9 (fun _ => ?_)
  refine bind_step c ?_; refine part20 m ρ K c h0 h1 h2 h3 h4 h5 h6 h7 h8 h9 _ ?_
  refine bind_step c ?_; refine part21 m ρ K c h0 h1 h2 h3 h4 h5 h6 h7 h8 h9 ?_
  refine bind_step c ?_; refine part22 m ρ K c h0 h1 h2 h3 h4 h5 h6 h7 h8 h9 ?_
  refine bind_step c ?_; refine part23 m ρ K c h0 h1 h2 h3 h4 h5 h6 h7 h8 h9 (fun _ => ?_)
  refine bind_step c ?_; refine part24 m ρ K c h0 h1 h2 h3 h4 h5 h6 h7 h8 h9 _ (fun _ => ?_)
  refine bind_step c ?_; refine part25 m ρ K c h0 h1 h2 h3 h4 h5 h6 h7 h8 h9 _ (fun _ => ?_)
  refine bind_step c ?_; refine part26 m ρ K c h0 h1 h2 h3 h4 h5 h6 h7 h8 h9 _ ?_
  refine bind_step c ?_; refine part27 m ρ K c h0 h1 h2 h3 h4 h5 h6 h7 h8 h9 ?_
  refine bind_step c ?_; refine part28 m ρ K c h0 h1 h2 h3 h4 h5 h6 h7 h8 h9 (fun _ => ?_)
  refine bind_step c ?_; refine part29 m ρ K c h0 h1 h2 h3 h4 h5 h6 h7 h8 h9 _ ?_
  refine bind_step c ?_; refine part30 m ρ K c h0 h1 h2 h3 h4 h5 h6 h7 h8 h9 ?_
  refine bind_step c ?_; refine part31 m ρ K c h0 h1 h2 h3 h4 h5 h6 h7 h8 h9 ?_
  refine bind_step c ?_; refine part32 m ρ K c h0 h1 h2 h3 h4 h5 h6 h7 h8 h9 ?_
  refine bind_step c ?_; refine part33 m ρ K c h0 h1 h2 h3 h4 h5 h6 h7 h8 h9 ?_
  refine bind_step c ?_; refine part34 m ρ K c h0 h1 h2 h3 h4 h5 h6 h7 h8 h9 ?_
  refine bind_step c ?_; refine part35 m ρ K c h0 h1 h2 h3 h4 h5 h6 h7 h8 h9 ?_
  refine bind_step c ?_; refine part36 m ρ K c h0 h1 h2 h3 h4 h5 h6 h7 h8 h9 ?_
  refine bind_step c ?_; refine part37 m ρ K c h0 h1 h2 h3 h4 h5 h6 h7 h8 h9 ?_
  refine bind_step c ?_; refine part38 m ρ K c h0 h1 h2 h3 h4 h5 h6 h7 h8 h9 ?_
  refine bind_step c ?_; refine part39 m ρ K c h0 h1 h2 h3 h4 h5 h6 h7 h8 h9 ?_
  simp only [Prog.lift, Prog.bind_op, Prog.bind_ret, Prog.pure_eq_ret]
  refine step_swait m ρ K c 13 13 (by decide) (sem4_eq 13 _ _) (sb_credit _ _) ?_
  exact ret_step c h

set_option maxRecDepth 65536 in
/-- The kernel's body, from the state in which nothing has been done to the one in which everything has. -/
theorem body {Q : PUnit → sProp 𝕄} (h : St m ρ c K 15 15 15 15 15 15 15 15 1 5 1 ⊢ Q ⟨⟩) :
    St m ρ c K 0 0 0 0 0 0 0 0 0 0 0 ⊢ WP c (cc0_body (F := F) xM h0 rwM h1 idxM h2 ewM h3 swM h4 oM h5 sbM h6 dispM h7 rsM h8 respM h9 cc0_scratch4 cc0_scratch5 cc0_scratch6 cc0_scratch7) Q := by
  rw [cc0_body_eq_skeleton]; unfold cc0_body_skel
  refine bind_step c ?_; refine part40 m ρ K c h0 h1 h2 h3 h4 h5 h6 h7 h8 h9 ?_
  simp only [Prog.lift, Prog.bind_op, Prog.bind_ret, Prog.pure_eq_ret]
  refine step_await m ρ K c 14 13 (by decide) (sem6_eq 13 _ _) (rs_credit _ _) ?_
  refine step_swait m ρ K c 14 14 (by decide) (sem4_eq 14 _ _) (sb_credit _ _) ?_
  refine step_await m ρ K c 15 14 (by decide) (sem6_eq 14 _ _) (rs_credit _ _) ?_
  exact ret_step c h

end Body

end Cert.Moe

end
-- ==== Proof.Launch.lean ====
/-
# The launch

The kernel's own semaphores and the barrier's are opened as cells; the duty tokens go to the devices that pay with
them; each device's body runs from the state in which nothing has been done to the one in which everything has.
-/
module

public import proofs.«01_k».proof.Proof.Body
public import proofs.«01_k».proof.Proof.Gen.KernelIdeal.Frame

@[expose] public section

noncomputable section

namespace Cert.Moe

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The proof data -/

/-- What a device's tokens pay: its signals, its dispatches, its answers. -/
def payToks (c : Dev nD) : sProp 𝕄 :=
  iprop(bigSep Finset.univ (tokB (F := F) c) ∗ bigSep Finset.univ (tokX (F := F) c 0 1) ∗ bigSep Finset.univ (tokX (F := F) c 2 3))
def positions (c : Dev nD) : sProp 𝕄 :=
  bigSep Finset.univ fun k : CI => atPos ER (kcell (c, k)) 0 (∅ : Finset (Fin 15)) 0
/-- The protocol's state device `c` starts from. -/
def ghost (K : Dev nD × CI → ℕ) (c : Dev nD) : sProp 𝕄 := iprop(records m ρ K ∗ positions c ∗ payToks c)
def creds (c : Dev nD) : sProp 𝕄 :=
  iprop(cred (tallyAt (barCell c) () 15) ∗ bigSep Finset.univ (credAt (F := F) c 1) ∗ bigSep Finset.univ (credAt (F := F) c 3))
def start (c : Dev nD) : sProp 𝕄 := iprop((∃ K, ghost m ρ K c) ∗ creds c ∗ levAts L lv)
/-- The four exchange buffers, at some contents. -/
def bufs (c : Dev nD) : sProp 𝕄 :=
  iprop((∃ f, whole (F := F) c cc0_scratch0 f) ∗ (∃ f, whole (F := F) c cc0_scratch1 f) ∗ (∃ f, whole (F := F) c cc0_scratch2 f) ∗ (∃ f, whole (F := F) c cc0_scratch3 f))
def zeros (c : Dev nD) : sProp 𝕄 := bigSep Finset.univ fun q : Fin 4 × Fin 15 => semVal (dcell q.1 c q.2) 0
def Φ₀ (c : Dev nD) : sProp 𝕄 := iprop(start m ρ c ∗ bufs c)
def Φ₁ (c : Dev nD) : sProp 𝕄 := iprop(bufs (F := F) c ∗ zeros c ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xv m ρ c
    | ⟨1, _⟩ => rwv m ρ c
    | ⟨2, _⟩ => idxv m ρ c
    | ⟨3, _⟩ => ewv m ρ c
    | ⟨4, _⟩ => swv m ρ c
    | ⟨5, _⟩ => outv m ρ c
  Φ t := match t with
    | ⟨0, _⟩ => Φ₀ m ρ c
    | ⟨_ + 1, _⟩ => Φ₁ c
  q _ := fullShare
  owed t := match t with
    | ⟨0, _⟩ => owed c 0 0 0
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ whole c b f) := by
  unfold owns; simp only [Memref.view_whole, View.read_whole, View.set_whole]

omit [FloatOps F] in
theorem sb_whole (c : Dev nD) (f) : whole (F := F) c cc0_scratch0 f = sbP c 0 15 f := by unfold sbP pts; rw [rows_all]
omit [FloatOps F] in
theorem disp_whole (c : Dev nD) (f) : whole (F := F) c cc0_scratch1 f = dispP c 0 15 f := by unfold dispP pts; rw [rows_all]
omit [FloatOps F] in
theorem rs_whole (c : Dev nD) (f) : whole (F := F) c cc0_scratch2 f = rsP c 0 15 f := by unfold rsP pts; rw [rows_all]
omit [FloatOps F] in
theorem resp_whole (c : Dev nD) (f) : whole (F := F) c cc0_scratch3 f = respP c 0 15 f := by unfold respP pts; rw [rows_all]

omit [FloatOps F] in
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

omit [FloatOps F] in
/-- A conjunction over the four arrays' semaphores, array by array. -/
theorem bigSep_dma (Φ : Fin 4 × Fin 15 → sProp 𝕄) : bigSep Finset.univ Φ
    = iprop(win 0 15 (fun j => Φ (0, j)) ∗ win 0 15 (fun j => Φ (1, j)) ∗ win 0 15 (fun j => Φ (2, j)) ∗ win 0 15 (fun j => Φ (3, j))) := by
  rw [BI.bigSep_univ_prod, bigSep_fin4, win_all, win_all, win_all, win_all]

omit [FloatOps F] in
theorem positions_eq (c : Dev nD) : positions (F := F) c = iprop(atPos ER (barCell c) 0 (∅ : Finset (Fin 15)) 0
    ∗ win 0 15 (posAt c 0) ∗ win 0 15 (posAt c 1) ∗ win 0 15 (posAt c 2) ∗ win 0 15 (posAt c 3)) := by
  unfold positions
  rw [BI.bigSep_univ_sum, bigSep_dma, Finset.univ_unique, bigSep_singleton]; rfl

/-! ## The body's obligation -/

/-- Before anything has been done. -/
theorem St_start (K : Dev nD × CI → ℕ) (c : Dev nD) (W : Waits sig Unit) (f5) :
    iprop(ghost m ρ K c ∗ creds c ∗ levAts L lv ∗ bufs c ∗ owes (c : Thread nD τ) (owed c 0 0 0) W ∗ insP m ρ c ∗ whole c cc0_stg5_0 f5)
      ⊢ St m ρ c K 0 0 0 0 0 0 0 0 0 0 0 := by
  unfold ghost creds bufs payToks St ctx owesW dispAny respAny rsAny
  rw [positions_eq]
  simp only [win_none, dispP_none, respP_none, rsP_none, barSt, sbSt, outSt, ← win_all, sb_whole, disp_whole, rs_whole, resp_whole, Nat.mul_zero]
  iintro ⟨⟨#HI, ⟨Hb, H0, H1, H2, H3⟩, ⟨HtB, HtD, HtR⟩⟩, ⟨Hcb, Hc1, Hc3⟩, #Hlev, ⟨⟨%f0, Hs0⟩, ⟨%f1, Hs1⟩, ⟨%f2, Hs2⟩, ⟨%f3, Hs3⟩⟩, HO, Hin, Hout⟩
  iframe
  isplitr; · isplitr; · iexact HI
             iexact Hlev
  isplitl [HO]; · iexists W; iexact HO
  isplitl [Hs1]; · iexists f1; iexact Hs1
  isplitl [Hs3]; · iexists f3; iexact Hs3
  isplitl [Hs0]; · iexists f0; iexact Hs0
  isplitl [Hs2]; · iexists f2; iexact Hs2
  iexists f5; iexact Hout

/-- Once everything has been done. -/
theorem St_end (K : Dev nD × CI → ℕ) (c : Dev nD) :
    St m ρ c K 15 15 15 15 15 15 15 15 1 5 1
      ⊢ iprop(Φ₁ c ∗ (∃ W, owes (c : Thread nD τ) 0 W) ∗ insP m ρ c ∗ whole c cc0_stg5_0 (outv m ρ c)) := by
  unfold St owesW Φ₁ bufs zeros
  rw [bigSep_dma, owed_done]
  simp only [barSt, sbSt, outSt, sb_whole, disp_whole, rs_whole, resp_whole]
  iintro ⟨#Hctx, HO, Hd, Hr, HtB, Hb, HlD, HlR, HtX, Hz0, Hp0, Hc0, Hz1, Hp1, Hc1, HD, HtY, Hz2, Hp2, Hc2, Hz3, Hp3, Hc3, HR, ⟨Hsb, Hsb'⟩, Hra, Hrs, Hrs', Hin, Hout⟩
  isplitl [Hsb' HD Hrs' HR Hz0 Hz1 Hz2 Hz3 Hb]
  · isplitl [Hsb' HD Hrs' HR]
    · isplitl [Hsb']; · iexists _; iexact Hsb'
      isplitl [HD]; · iexists _; iexact HD
      isplitl [Hrs']; · iexists _; iexact Hrs'
      iexists _; iexact HR
    isplitl [Hz0 Hz1 Hz2 Hz3]
    · isplitl [Hz0]; · iexact Hz0
      isplitl [Hz1]; · iexact Hz1
      isplitl [Hz2]; · iexact Hz2
      iexact Hz3
    iexact Hb
  isplitl [HO]; · iexact HO
  isplitl [Hin]; · iexact Hin
  iexact Hout

abbrev stg (c : Dev nD) (b : Ref sig .tc) (X : b.ty.Contents (Elt F)) : sProp 𝕄 :=
  iprop(∃ f : Buf (Elt F) ((c : Thread nD τ).loc b), ⌜f = X⌝ ∗ whole c b f)

set_option maxRecDepth 4000 in
def bodyPre (c : Dev nD) : sProp 𝕄 :=
  iprop(Φ₀ m ρ c ∗ (dats m ρ 0 c).owesAt () t0_0.castSucc
    ∗ (∃ d, stg c cc0_stg0_0 ((dats m ρ 0 c).before (0 : Fin 6) t0_0 d))
    ∗ (∃ d, stg c cc0_stg1_0 ((dats m ρ 0 c).before (1 : Fin 6) t0_0 d))
    ∗ (∃ d, stg c cc0_stg2_0 ((dats m ρ 0 c).before (2 : Fin 6) t0_0 d))
    ∗ (∃ d, stg c cc0_stg3_0 ((dats m ρ 0 c).before (3 : Fin 6) t0_0 d))
    ∗ (∃ d, stg c cc0_stg4_0 ((dats m ρ 0 c).before (4 : Fin 6) t0_0 d))
    ∗ (∃ d, stg c cc0_stg5_0 ((dats m ρ 0 c).before (5 : Fin 6) t0_0 d)))

def bodyPost (c : Dev nD) : sProp 𝕄 :=
  iprop(Φ₁ c ∗ (dats m ρ 0 c).owesAt () t0_0.succ ∗ stg c cc0_stg0_0 (xv m ρ c) ∗ stg c cc0_stg1_0 (rwv m ρ c) ∗ stg c cc0_stg2_0 (idxv m ρ c)
    ∗ stg c cc0_stg3_0 (ewv m ρ c) ∗ stg c cc0_stg4_0 (swv m ρ c) ∗ stg c cc0_stg5_0 (outv m ρ c))

theorem before_0 (c : Dev nD) (d) : (dats m ρ 0 c).before (0 : Fin 6) t0_0 d = xv m ρ c := by
  unfold Dat.before; rw [if_pos (fetch0_0 t0_0)]; rfl
theorem before_1 (c : Dev nD) (d) : (dats m ρ 0 c).before (1 : Fin 6) t0_0 d = rwv m ρ c := by
  unfold Dat.before; rw [if_pos (fetch0_1 t0_0)]; rfl
theorem before_2 (c : Dev nD) (d) : (dats m ρ 0 c).before (2 : Fin 6) t0_0 d = idxv m ρ c := by
  unfold Dat.before; rw [if_pos (fetch0_2 t0_0)]; rfl
theorem before_3 (c : Dev nD) (d) : (dats m ρ 0 c).before (3 : Fin 6) t0_0 d = ewv m ρ c := by
  unfold Dat.before; rw [if_pos (fetch0_3 t0_0)]; rfl
theorem before_4 (c : Dev nD) (d) : (dats m ρ 0 c).before (4 : Fin 6) t0_0 d = swv m ρ c := by
  unfold Dat.before; rw [if_pos (fetch0_4 t0_0)]; rfl

/-- What the run leaves is what the pipeline asks for. -/
theorem St_post (K : Dev nD × CI → ℕ) (c : Dev nD) : St m ρ c K 15 15 15 15 15 15 15 15 1 5 1 ⊢ bodyPost m ρ c := by
  refine (St_end m ρ K c).trans ?_
  unfold bodyPost insP Dat.owesAt Pipeline.owesWithin
  rw [show (dats m ρ 0 c).owed t0_0.succ = 0 from rfl]
  iintro ⟨HP, ⟨%W, HO⟩, ⟨H0, H1, H2, H3, H4⟩, H5⟩
  isplitl [HP]; · iexact HP
  isplitl [HO]
  · iexists W
    isplitr; · ipureintro; exact fun _ _ => Or.inl trivial
    iexact HO
  isplitl [H0]; · iexists _; isplitr; · (ipureintro; rfl)
                  iexact H0
  isplitl [H1]; · iexists _; isplitr; · (ipureintro; rfl)
                  iexact H1
  isplitl [H2]; · iexists _; isplitr; · (ipureintro; rfl)
                  iexact H2
  isplitl [H3]; · iexists _; isplitr; · (ipureintro; rfl)
                  iexact H3
  isplitl [H4]; · iexists _; isplitr; · (ipureintro; rfl)
                  iexact H4
  iexists _; isplitr; · (ipureintro; rfl)
  iexact H5

set_option maxRecDepth 65536 in
/-- The library's body obligation on core `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ WP c (cc0_body (F := F) xM (Memref.isWhole_whole _) rwM (Memref.isWhole_whole _) idxM (Memref.isWhole_whole _)
    ewM (Memref.isWhole_whole _) swM (Memref.isWhole_whole _) oM (Memref.isWhole_whole _) sbM (Memref.isWhole_whole _)
    dispM (Memref.isWhole_whole _) rsM (Memref.isWhole_whole _) respM (Memref.isWhole_whole _) cc0_scratch4 cc0_scratch5 cc0_scratch6 cc0_scratch7)
    (fun _ => bodyPost m ρ c)
  unfold bodyPre Φ₀ start Dat.owesAt Pipeline.owesWithin
  simp only [before_0, before_1, before_2, before_3, before_4]
  rw [show (dats m ρ 0 c).owed t0_0.castSucc = owed c 0 0 0 from rfl]
  iintro ⟨⟨⟨⟨%K, Hg⟩, Hc, Hl⟩, Hbuf⟩, ⟨%W, %hW, HO⟩, ⟨%d0, %g0, %e0, H0⟩, ⟨%d1, %g1, %e1, H1⟩, ⟨%d2, %g2, %e2, H2⟩, ⟨%d3, %g3, %e3, H3⟩, ⟨%d4, %g4, %e4, H4⟩, ⟨%d5, %g5, %e5, H5⟩⟩
  subst e0; subst e1; subst e2; subst e3; subst e4
  iapply (body m ρ K c (Memref.isWhole_whole _) (Memref.isWhole_whole _) (Memref.isWhole_whole _) (Memref.isWhole_whole _) (Memref.isWhole_whole _)
    (Memref.isWhole_whole _) (Memref.isWhole_whole _) (Memref.isWhole_whole _) (Memref.isWhole_whole _) (Memref.isWhole_whole _) (Q := fun _ => bodyPost m ρ c) (St_post m ρ K c))
  iapply (St_start m ρ K c W g5)
  isplitl [Hg]; · iexact Hg
  isplitl [Hc]; · iexact Hc
  isplitl [Hl]; · iexact Hl
  isplitl [Hbuf]; · iexact Hbuf
  isplitl [HO]; · iexact HO
  isplitr [H5]
  · unfold insP; iframe
  iexact H5

end Cert.Moe

end
-- ==== Proof.Run.lean ====
/-
# The run

The cells opened at launch, the tokens dealt, the launch's credits, and the run of all sixteen devices.
-/
module

public import proofs.«01_k».proof.Proof.Launch
public import Idealize.ShloMosaic.Lib.Pipeline.CollectiveSegs

@[expose] public section

noncomputable section

namespace Cert.Moe

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and their tokens -/

theorem dsem_injective {a b : Fin 4} {i j : Fin 15} (h : dsem a i = dsem b j) : a = b ∧ i = j := by
  have h1 := congrArg arrOf h
  have h2 := congrArg posOf h
  rw [arrOf_dsem, arrOf_dsem] at h1
  rw [posOf_dsem, posOf_dsem] at h2
  exact ⟨Fin.ext h1, h2⟩

theorem csem_injective : Function.Injective csem := by
  rintro (⟨⟩ | ⟨a, i⟩) (⟨⟩ | ⟨b, j⟩) h
  · rfl
  · exact absurd h (fun h => by cases h)
  · exact absurd h (fun h => by cases h)
  · have e : dsem a i = dsem b j := SemLoc.dma.inj h
    obtain ⟨h1, h2⟩ := dsem_injective e
    rw [h1, h2]

theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

/-- The kernel's own semaphores. -/
abbrev osem : Fin 4 × Fin 15 → SemLoc sig := fun q => .dma (dsem q.1 q.2)

theorem ownSemFacts : Pipeline.OwnSemFacts cfg0.spec osem where
  isScoped := by decide
  inj := fun q q' h => by
    obtain ⟨h1, h2⟩ := dsem_injective (SemLoc.dma.inj h)
    exact Prod.ext h1 h2
  disj := by
    have H : ∀ (w : Fin 6) (s : Fin (spec0 w).nbuf), ((spec0 w).sem s).val < 6 := by decide
    intro k w s h
    have h1 : (dsem k.1 k.2).val < 6 := by rw [SemLoc.dma.inj h]; exact H w s
    unfold dsem at h1; dsimp only at h1; omega

theorem share_eq (c : Dev nD) (w : Fin cfg0.W) : (dats m ρ 0 c).share w = fullShare := by unfold Dat.share; split <;> rfl

def ringCells : Finset (GSem nD τ sig) := Finset.univ.map ⟨kcell, kcell_injective⟩

/-- A device's own cells' duties: the barrier's fifteen, one of each other cell. -/
abbrev DI : Type := Fin 15 ⊕ (Fin 4 × Fin 15)
def tokOf (cj : Dev nD × DI) : GSem nD τ sig × ℕ × Fin 15 := match cj.2 with
  | .inl d => (barCell cj.1, 0, d)
  | .inr q => (dcell q.1 cj.1 q.2, 0, 0)
theorem tokOf_injective : Function.Injective tokOf := by
  rintro ⟨c, j⟩ ⟨c', j'⟩ h
  have h1 : c = c' := by
    have := congrArg (fun x : GSem nD τ sig × ℕ × Fin 15 => x.1.1.1) h
    rcases j with d | q <;> rcases j' with d' | q' <;> exact this
  subst h1
  rcases j with d | ⟨a, i⟩ <;> rcases j' with d' | ⟨b, i'⟩
  · have : d = d' := congrArg (fun x : GSem nD τ sig × ℕ × Fin 15 => x.2.2) h
    rw [this]
  · exact absurd (congrArg (fun x : GSem nD τ sig × ℕ × Fin 15 => x.1.2) h) (fun h' => by cases h')
  · exact absurd (congrArg (fun x : GSem nD τ sig × ℕ × Fin 15 => x.1.2) h) (fun h' => by cases h')
  · have h2 : SemLoc.dma (dsem a i) = SemLoc.dma (dsem b i') := congrArg (fun x : GSem nD τ sig × ℕ × Fin 15 => x.1.2) h
    obtain ⟨h3, h4⟩ := dsem_injective (SemLoc.dma.inj h2)
    rw [h3, h4]
def ringToks : Finset (GSem nD τ sig × ℕ × Fin 15) := Finset.univ.map ⟨tokOf, tokOf_injective⟩

def u₀ : UU := (initOf (Pipeline.cells cfgs cellOf_inj) (Pipeline.launchToks cfgs cellOf_inj), initOf ringCells ringToks)

/-- The duty tokens of device `c`'s own cells. -/
def toks (c : Dev nD) : sProp 𝕄 :=
  iprop(bigSep Finset.univ (fun d : Fin 15 => dutyTok ER (barCell c) 0 d)
    ∗ win 0 15 (fun j => dutyTok ER (dcell 0 c j) 0 (0 : Fin 15)) ∗ win 0 15 (fun j => dutyTok ER (dcell 1 c j) 0 (0 : Fin 15))
    ∗ win 0 15 (fun j => dutyTok ER (dcell 2 c j) 0 (0 : Fin 15)) ∗ win 0 15 (fun j => dutyTok ER (dcell 3 c j) 0 (0 : Fin 15)))

def G (c : Dev nD) : sProp 𝕄 :=
  iprop((bigSep Finset.univ fun k : CI => roundState ER (Rd m ρ) (kcell (c, k)) 0)
    ∗ (bigSep Finset.univ fun k : CI => iprop(atPos ER (kcell (c, k)) 0 ∅ 0 ∗ reached ER (kcell (c, k)) 0)) ∗ toks c)

def G' (c : Dev nD) : sProp 𝕄 := iprop(∃ K, ghost m ρ K c)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : CI => Φ (kcell (c, k)) := by
    unfold ringCells; rw [bigSep_map, BI.bigSep_univ_prod]; rfl
  have hT : bigSep ringToks (fun x => (dutyTok ER x.1 x.2.1 x.2.2 : sProp 𝕄)) = bigSep Finset.univ fun c : Dev nD => toks c := by
    unfold ringToks; rw [bigSep_map, BI.bigSep_univ_prod]
    exact bigSep_congr fun c _ => by unfold toks; rw [BI.bigSep_univ_sum, bigSep_dma]; rfl
  iintro HX
  imod (Rounds.fund ER (Rd m ρ) ringCells ringToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem ownSems0_eq (c : Dev nD) : (Pipeline.ownSems0 (Ix := Unit) (Name := ℕ) (U := UU) (Lvl := ℕ) (Val := Elt F) (τ := τ) osem c : sProp 𝕄) = zeros c := rfl

omit [FloatOps F] in
/-- A conjunction over a device's cells: the barrier's, then the others'. -/
theorem bigSep_CI (Φ : CI → sProp 𝕄) : bigSep Finset.univ Φ = iprop(Φ (.inl ()) ∗ bigSep Finset.univ (fun q => Φ (.inr q))) := by
  rw [BI.bigSep_univ_sum, Finset.univ_unique, bigSep_singleton]; rfl

omit [FloatOps F] in
theorem sems0_eq (c : Dev nD) :
    iprop(zeros c ∗ semVal (barCell c) 0) ⊢ (bigSep Finset.univ fun k : CI => semVal (kcell (c, k)) 0 : sProp 𝕄) := by
  rw [bigSep_CI]
  unfold zeros
  iintro ⟨HZ, HB⟩
  isplitl [HB]; · iexact HB
  iexact HZ

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ toks c) := by
  rw [ownSems0_eq, unscopedSems0_eq]
  unfold G
  iintro ⟨Hos, Hus, Hst, Hat, Htok⟩
  ihave Hv := (sems0_eq (F := F) c) $$ [Hos Hus]
  · isplitl [Hos] <;> iassumption
  imod (show iprop((bigSep Finset.univ fun k : CI => semVal (kcell (c, k)) 0) ∗ bigSep Finset.univ fun k : CI => roundState ER (Rd m ρ) (kcell (c, k)) 0)
      ⊢ (|={Set.univ}=> bigSep Finset.univ fun k => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens dealt to the devices that pay with them -/

/-- A device and one of its peers, seen from the peer. -/
def across : (Dev nD × Fin 15) ≃ (Dev nD × Fin 15) where
  toFun p := (peer p.1 p.2, opp p.2)
  invFun p := (peer p.1 p.2, opp p.2)
  left_inv p := by obtain ⟨c, j⟩ := p; dsimp only; rw [peer_opp, opp_opp]
  right_inv p := by obtain ⟨c, j⟩ := p; dsimp only; rw [peer_opp, opp_opp]

omit [FloatOps F] in
theorem bigSep_across (Φ : Dev nD → Fin 15 → sProp 𝕄) :
    (bigSep Finset.univ fun c : Dev nD => bigSep Finset.univ fun j : Fin 15 => Φ c j)
      = bigSep Finset.univ fun c : Dev nD => bigSep Finset.univ fun j : Fin 15 => Φ (peer c j) (opp j) := by
  rw [← BI.bigSep_univ_prod (fun p : Dev nD × Fin 15 => Φ p.1 p.2), BI.bigSep_univ_equiv across, BI.bigSep_univ_prod]; rfl

omit [FloatOps F] in
theorem toks_around : (bigSep Finset.univ fun c : Dev nD => (toks c : sProp 𝕄)) ⊢ bigSep Finset.univ fun c : Dev nD => payToks c := by
  unfold toks payToks tokX
  simp only [win_all, bigSep_sep']
  rw [bigSep_across (fun c d => (dutyTok ER (barCell c) 0 d : sProp 𝕄)),
    bigSep_across (fun c j => (dutyTok ER (dcell 1 c j) 0 (0 : Fin 15) : sProp 𝕄)),
    bigSep_across (fun c j => (dutyTok ER (dcell 3 c j) 0 (0 : Fin 15) : sProp 𝕄))]
  iintro ⟨H1, H2, H3, H4, H5⟩
  isplitl [H1]; · iexact H1
  isplitl [H2 H3]
  · isplitl [H2]; · iexact H2
    iexact H3
  isplitl [H4]; · iexact H4
  iexact H5

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × CI → ℕ) (c : Dev nD) : iprop(records m ρ K ∗ (positions c ∗ payToks c)) ⊢ G' m ρ c := by
  unfold G' ghost
  iintro H
  iexists K; iexact H

theorem regroup :
    (bigSep Finset.univ fun c : Dev nD => iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← BI.bigSep_univ_prod (fun ck : Dev nD × CI => iprop(∃ κ : ℕ, cellInv ER (Rd m ρ) κ (kcell ck))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← BI.bigSep_univ_prod (fun ck : Dev nD × CI => (reached ER (kcell ck) 0 : sProp 𝕄))]
  iintro ⟨HI, ⟨Hat, #HR⟩, Htok⟩
  ihave HK := (BI.bigSep_exists_pi Finset.univ (fun (ck : Dev nD × CI) (κ : ℕ) => (cellInv ER (Rd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; rw [bigSep_sep']
    isplitl; · iexact HI
    iexact HR
  · iapply ((Entails.of_eq (bigSep_sep' Finset.univ (positions (F := F)) payToks).symm))
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch's credits -/

/-- What everyone owes at launch. -/
abbrev O₀ (c : Dev nD) : CellTallies nD τ sig Unit := owed c 0 0 0

theorem filter_all (f : Fin 15 → ℕ) : ∑ j ∈ Finset.univ.filter (fun j : Fin 15 => 0 ≤ j.val), f j = ∑ j, f j := by
  rw [Finset.filter_true_of_mem fun j _ => Nat.zero_le _]

/-- What is owed to one cell, kind by kind. -/
theorem owed_at (d : Dev nD) (g : GSem nD τ sig) : O₀ d g ()
    = (∑ j : Fin 15, if g = dcell 3 (peer d j) (opp j) then N2 else 0) + (∑ j : Fin 15, if g = dcell 1 (peer d j) (opp j) then N1 else 0)
      + ∑ j : Fin 15, if g = barCell (peer d j) then 1 else 0 := by
  unfold O₀ owed
  rw [Pi.add_apply, Finsupp.add_apply, Pi.add_apply, Finsupp.add_apply, Finset.sum_apply, Finsupp.finset_sum_apply,
    Finset.sum_apply, Finsupp.finset_sum_apply, Finset.sum_apply, Finsupp.finset_sum_apply, filter_all, filter_all, filter_all]
  simp only [tallyAt_apply, and_true]

/-- Summed over the devices, what the peers owe is what is owed from each peer. -/
theorem sum_across (f : Dev nD → Fin 15 → ℕ) : ∑ d : Dev nD, ∑ j : Fin 15, f (peer d j) (opp j) = ∑ d : Dev nD, ∑ j : Fin 15, f d j := by
  rw [← Fintype.sum_prod_type' f, ← Fintype.sum_prod_type' (fun d j => f (peer d j) (opp j))]
  exact Fintype.sum_equiv across _ _ fun _ => rfl

theorem sum_owed (g : GSem nD τ sig) : ∑ d : Dev nD, O₀ d g ()
    = (∑ d : Dev nD, ∑ j : Fin 15, if g = dcell 3 d j then N2 else 0) + (∑ d : Dev nD, ∑ j : Fin 15, if g = dcell 1 d j then N1 else 0)
      + ∑ d : Dev nD, ∑ _j : Fin 15, if g = barCell d then 1 else 0 := by
  simp only [owed_at, Finset.sum_add_distrib]
  rw [sum_across (fun d j => if g = dcell 3 d j then N2 else 0), sum_across (fun d j => if g = dcell 1 d j then N1 else 0),
    sum_across (fun d _ => if g = barCell d then 1 else 0)]

theorem dcell_eq_iff {a b : Fin 4} {c d : Dev nD} {i j : Fin 15} : dcell a c i = dcell b d j ↔ (a = b ∧ c = d) ∧ i = j :=
  ⟨fun h => by
    have h1 : c = d := congrArg (fun g : GSem nD τ sig => g.1.1) h
    have h2 := dsem_injective (SemLoc.dma.inj (congrArg Prod.snd h))
    exact ⟨⟨h2.1, h1⟩, h2.2⟩, fun h => by rw [h.1.1, h.1.2, h.2]⟩
theorem bar_eq_iff {c d : Dev nD} : barCell c = barCell d ↔ c = d :=
  ⟨fun h => congrArg (fun g : GSem nD τ sig => g.1.1) h, fun h => by rw [h]⟩
theorem bar_ne {a : Fin 4} {c d : Dev nD} {j : Fin 15} : ¬ barCell c = dcell a d j := fun h => by
  have := congrArg Prod.snd h; cases this

theorem sum_two (c : Dev nD) (i : Fin 15) (n : ℕ) : (∑ d : Dev nD, ∑ j : Fin 15, if c = d ∧ i = j then n else 0) = n := by
  rw [Finset.sum_eq_single c (fun d _ hd => Finset.sum_eq_zero fun j _ => if_neg fun h => hd h.1.symm) (fun h => absurd (Finset.mem_univ _) h),
    Finset.sum_eq_single i (fun j _ hj => if_neg fun h => hj h.2.symm) (fun h => absurd (Finset.mem_univ _) h), if_pos ⟨rfl, rfl⟩]

theorem sum_zero {p : Dev nD → Fin 15 → Prop} [∀ d j, Decidable (p d j)] (n : ℕ) (h : ∀ d j, ¬ p d j) :
    (∑ d : Dev nD, ∑ j : Fin 15, if p d j then n else 0) = 0 :=
  Finset.sum_eq_zero fun d _ => Finset.sum_eq_zero fun j _ => if_neg (h d j)

theorem launch_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same, sum_owed, sum_zero _ fun _ _ => bar_ne, sum_zero _ fun _ _ => bar_ne]
  simp only [bar_eq_iff, Finset.sum_const, Finset.card_univ, Fintype.card_fin, smul_eq_mul]
  rw [← Finset.mul_sum, Finset.sum_ite_eq, if_pos (Finset.mem_univ _)]; rfl

theorem launch_disp (c : Dev nD) (j : Fin 15) :
    tallyOn (dcell 1 c j) (launchCredit (Pipeline.owing O₀) 0 (dcell 1 c j)) = (tallyAt (dcell 1 c j) () (amt 1) : CellTallies nD τ sig Unit) := by
  unfold tallyAt; refine congrArg _ (Finsupp.ext fun u => ?_); cases u
  rw [Pipeline.launchCredit_owing, Finsupp.single_eq_same, sum_owed,
    sum_zero _ (fun d i h => absurd (dcell_eq_iff.mp h).1.1 (by decide)), sum_zero (p := fun d _ => dcell 1 c j = barCell d) _ (fun d _ h => bar_ne h.symm)]
  simp only [dcell_eq_iff, true_and]
  rw [sum_two, zero_add, add_zero]; rfl

theorem launch_resp (c : Dev nD) (j : Fin 15) :
    tallyOn (dcell 3 c j) (launchCredit (Pipeline.owing O₀) 0 (dcell 3 c j)) = (tallyAt (dcell 3 c j) () (amt 3) : CellTallies nD τ sig Unit) := by
  unfold tallyAt; refine congrArg _ (Finsupp.ext fun u => ?_); cases u
  rw [Pipeline.launchCredit_owing, Finsupp.single_eq_same, sum_owed,
    sum_zero (p := fun d i => dcell 3 c j = dcell 1 d i) _ (fun d i h => absurd (dcell_eq_iff.mp h).1.1 (by decide)),
    sum_zero (p := fun d _ => dcell 3 c j = barCell d) _ (fun d _ h => bar_ne h.symm)]
  simp only [dcell_eq_iff, true_and]
  rw [sum_two, add_zero, add_zero]; rfl

omit [FloatOps F] in
theorem creds_intro (c : Dev nD) : (Pipeline.launchCred O₀ c : sProp 𝕄) ⊢ creds c := by
  have key : (bigSep Finset.univ fun k : CI => (cred (tallyOn (kcell (c, k)) (launchCredit (Pipeline.owing O₀) 0 (kcell (c, k)))) : sProp 𝕄)) ⊢ creds c := by
    rw [bigSep_CI, bigSep_dma]
    unfold creds
    iintro ⟨HB, -, H1, -, H3⟩
    isplitl [HB]
    · iapply (Entails.of_eq (congrArg cred (launch_bar c))); iexact HB
    isplitl [H1]
    · iapply (Entails.of_eq ((win_all _).trans (bigSep_congr fun j _ => congrArg cred (launch_disp c j)))); iexact H1
    iapply (Entails.of_eq ((win_all _).trans (bigSep_congr fun j _ => congrArg cred (launch_resp c j)))); iexact H3
  unfold Pipeline.launchCred
  exact (bigSep_subset (Finset.subset_univ (Finset.univ.map ⟨csem, csem_injective⟩))).trans ((Entails.of_eq (bigSep_map _)).trans key)

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ bufs
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ bufs
  iintro ⟨Hr, Hz, HzB⟩
  isplitl [HzB]; · iexact HzB
  isplitl [Hz]; · iexact Hz
  iexact Hr

theorem waits (c : Dev nD) : (levAts L lv : sProp 𝕄) ⊢ Pipeline.cellsWaits cfgs (dats m ρ) () 0 c :=
  Pipeline.cellsWaits_intro cfgs (dats m ρ) () 0 c fun w s t => by
    have H : ∀ (w : Fin 6) (s : Fin (spec0 w).nbuf), arrOf ((spec0 w).sem s) = 0 := by decide
    have hl : lv ((c : Thread nD τ), .dma (((cfgs 0).win w).sem s)) () = 0 := by
      show (if arrOf _ = 1 then 2 else if arrOf _ = 3 then 3 else 0) = 0
      rw [H w s]; rfl
    rcases t with ⟨_ | _, ht⟩
    · exact mayWait_owed c _ 0 0 0 (fun _ => by rw [hl]; decide) (fun _ => by rw [hl]; decide) (fun _ => by rw [hl]; decide)
    · show (levAts L lv : sProp 𝕄) ⊢ MayWait (c : Thread nD τ) _ () 0
      rw [MayWait_zero]; iintro -; iempintro

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters, for any float values: every weakly fair execution of the sixteen devices ends,
    and every final state has each device's result array at the computed contents, its arguments unchanged and every
    semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Moe

end
-- ==== Proof.Frames.lean ====
/-
# The frames

Each program ends on every weakly fair execution with its argument arrays unchanged and its counters at zero.
-/
module

public import proofs.«01_k».proof.Defs
public import proofs.«01_k».proof.Proof.Gen.Kernel
public import proofs.«01_k».proof.Proof.Run
public import proofs.«01_k».proof.Proof.Gen.ReferenceIdeal.Run

@[expose] public section

noncomputable section

namespace Cert.Moe

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- An input window's array ends as it began. -/
theorem final_in (c : Dev nD) (w : Fin cfg0.W) (hw : (cfg0.win w).isOut = false) :
    finalA m ρ c w = m ((cfg0.win w).arr.view.loc (c : Thread nD τ)) :=
  (dats m ρ 0 c).arrAt_in w hw _

/-- In every final state a device's five argument arrays are what they were at launch. -/
theorem args_kept {r : PUnit × MemSt nD τ sig (Elt F)} (h : QC m ρ r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  ⟨(h c 0).trans (final_in m ρ c 0 rfl), (h c 1).trans (final_in m ρ c 1 rfl), (h c 2).trans (final_in m ρ c 2 rfl),
    (h c 3).trans (final_in m ρ c 3 rfl), (h c 4).trans (final_in m ρ c 4 rfl)⟩

/-- Over any float values, every execution ends with the arguments unchanged and every semaphore counter at zero. -/
theorem frame_any :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨args_kept m ρ h.1, h.2⟩) (run_main m ρ)

/-- The idealized kernel's frame. -/
theorem frame_ideal : Cert.quiescent_KernelIdeal := fun m ρ _ => frame_any (F := Ideal) m ρ

/-- The two programs' body tables are one: each label's body has the same text. -/
theorem defs₀_same : (Cert.Kernel.defs₀ (F := F) : Defs nD τ sig (Elt F) Λ₀) = Cert.KernelIdeal.defs₀ := by
  unfold Cert.Kernel.defs₀ Cert.KernelIdeal.defs₀
  congr 1
  funext l a
  obtain ⟨l, hl⟩ := l
  cases l with
  | zero => rfl
  | succ n => exact absurd hl (Nat.not_lt.2 (Nat.le_add_left _ _))

/-- And so are their tables with the pipeline's own labels. -/
theorem defs_same : Cert.Kernel.defs (F := F) = (Cert.KernelIdeal.defs (F := F)) := congrArg (Pipeline.defs pcfgs) defs₀_same

/-- The kernel's frame: the two programs have the same text, so it is the same run, over machine floats. -/
theorem frame_kernel : Cert.quiescent_Kernel := by
  intro m ρ _
  rw [defs_same]
  exact frame_any (F := Bits) m ρ

/-- The reference's frame: it is a list of host operations, none of which writes an argument, and it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Moe

end
-- ==== Proof.Need.lean ====
/-
# What the capacity asks

The precondition's side conditions, and what it says when read at a token: every token's expert is one of the
thirty-two, and no destination is chosen by more than sixty-four of a device's tokens. Then the slots: a token's
slot is the number of earlier tokens with the same destination, so it is below sixty-four, and no two tokens share
both destination and slot.
-/
module

public import proofs.«01_k».proof.Defs
public import Idealize.ShloMosaic.Lib.Pointwise
public import Idealize.ShloMosaic.Lib.WordCmp
public import Idealize.ShloMosaic.Lib.Affine
public import Idealize.ShloMosaic.Lib.Routing.Words

@[expose] public section

set_option maxRecDepth 16384

noncomputable section

namespace Cert.Moe

open Idealize.ShloMosaic
open Idealize.ShloMosaic.TcCoe

/-- The side conditions of the precondition over one device's tokens; -/
theorem facts_need : Cert.Pre_capacity_KernelIdeal.Facts where
  bcast_S_S512x1 := by decide
  transposes_S512x1_S1x512_1_0 := by decide
  bcast_S512x1_S512x512_0_1 := by decide
  bcast_S1x512_S512x512_0_1 := by decide
  natLt_1_32 := by decide
  reducesTo_S512x512_S512_d1 := by decide
  h_S_ := by decide
  bcast_S512_S512x1_0 := by decide

/-- and over all the tokens. -/
theorem facts_need_all : Cert.Pre_capacity_ReferenceIdeal.Facts where
  bcast_S_S8192x1 := by decide
  transposes_S8192x1_S1x8192_1_0 := by decide
  bcast_S8192x1_S8192x8192_0_1 := by decide
  bcast_S1x8192_S8192x8192_0_1 := by decide
  natLt_1_32 := by decide
  reducesTo_S8192x8192_S8192_d1 := by decide
  h_S_ := by decide
  bcast_S8192_S8192x1_0 := by decide

/-- A decision's bit is one exactly when it holds. -/
theorem bit_one {p : Prop} [Decidable p] : BitVec.ofBool (decide p) = 1#1 ↔ p := by
  by_cases h : p <;> simp [h]

/-- A sum of widened decisions, as words, is the word of how many hold. -/
theorem fold_count {n : ℕ} (s : Finset (Fin n)) (p : Fin n → Prop) [DecidablePred p] :
    Finset.fold IntOp.addi (0#32) (fun x => BitVec.setWidth 32 (BitVec.ofBool (decide (p x)))) s
      = BitVec.ofNat 32 (s.filter p).card := by
  induction s using Finset.induction with
  | empty => simp
  | insert a s ha ih =>
    rw [Finset.fold_insert ha, ih, Finset.filter_insert]
    by_cases h : p a
    · rw [if_pos h, Finset.card_insert_of_notMem (by simp [ha])]
      simp [h, IntOp.addi, BitVec.ofNat_add, add_comm]
    · rw [if_neg h]
      simp [h, IntOp.addi]

/-- A word below thirty-two halves as its natural does. -/
theorem half_word (u : ArithUnit) {x : BitVec 32} (h : x.toNat < 32) :
    IntOp.divsi u x 2#32 = BitVec.ofNat 32 (x.toNat / 2) := by
  have := Routing.divsi_word u (a := x.toNat) (b := 2) (by omega) (by omega) (by omega)
  rwa [BitVec.ofNat_toNat, BitVec.setWidth_eq] at this

/-- What the precondition says of the route words it is read on. -/
def Fits (r : Fin 512 → ℕ) : Prop :=
  (∀ t, r t < 32) ∧ ∀ t, (Finset.univ.filter fun u => r t / 2 = r u / 2).card ≤ 64

open Cert.Pre_capacity_KernelIdeal in
/-- The precondition, read: the experts are in range and every destination has room. -/
theorem fits_of_need [Facts] {a0 a1 a3 a4} {a2 : IVec S512x1 32}
    (h : fn (F := Ideal) a0 a1 a2 a3 a4 = fun _ => 1#1) : Fits fun t => (a2 (ix2 t 0)).toNat := by
  have hr : ∀ t : Fin 512, (a2 (ix2 t 0)).toNat < 32 := fun t => by
    have e := congrFun h (ix2 t 0)
    pointwise [fn] at e
    rw [IntOp.andi_eq_one, WordCmp.andi_sge_zero_slt_ofNat (by decide)] at e
    exact bit_one.1 e.1
  refine ⟨hr, fun t => ?_⟩
  have e := congrFun h (ix2 t 0)
  pointwise [fn] at e
  rw [IntOp.andi_eq_one] at e
  have e2 := e.2
  simp only [half_word _ (hr _)] at e2
  have hb : ∀ u : Fin 512, IntOp.cmpi .eq (BitVec.ofNat 32 ((a2 (ix2 t 0)).toNat / 2)) (BitVec.ofNat 32 ((a2 (ix2 u 0)).toNat / 2))
      = BitVec.ofBool (decide ((a2 (ix2 t 0)).toNat / 2 = (a2 (ix2 u 0)).toNat / 2)) := fun u => by
    have h1 := hr t; have h2 := hr u
    exact WordCmp.cmpi_eq_ofNat (by omega) (by omega)
  simp only [hb] at e2
  rw [fold_count] at e2
  have hc : (Finset.univ.filter fun u : Fin 512 => (a2 (ix2 t 0)).toNat / 2 = (a2 (ix2 u 0)).toNat / 2).card ≤ 512 :=
    (Finset.card_le_univ _).trans (by simp)
  rw [WordCmp.cmpi_sle_ofNat (by omega) (by decide)] at e2
  exact bit_one.1 e2

/-! ## Slots -/

/-- How many earlier tokens chose the destination token `t` chose. -/
def slotN (r : Fin 512 → ℕ) (t : Fin 512) : ℕ := (Finset.univ.filter fun u => u < t ∧ r t / 2 = r u / 2).card

/-- With room at every destination, every token's slot is below the capacity. -/
theorem slotN_lt {r : Fin 512 → ℕ} (h : Fits r) (t : Fin 512) : slotN r t < 64 := by
  refine lt_of_lt_of_le (Finset.card_lt_card ?_) (h.2 t)
  refine Finset.ssubset_iff_of_subset (fun u hu => ?_) |>.2 ⟨t, ?_, ?_⟩
  · simp only [Finset.mem_filter] at hu ⊢; exact ⟨hu.1, hu.2.2⟩
  · simp
  · simp

/-- Slots grow along the tokens of one destination, -/
theorem slotN_mono {r : Fin 512 → ℕ} {t u : Fin 512} (hd : r t / 2 = r u / 2) (h : t < u) : slotN r t < slotN r u := by
  refine Finset.card_lt_card ?_
  refine Finset.ssubset_iff_of_subset (fun v hv => ?_) |>.2 ⟨t, ?_, ?_⟩
  · simp only [Finset.mem_filter] at hv ⊢
    exact ⟨hv.1, hv.2.1.trans h, hd ▸ hv.2.2⟩
  · simp [h, hd]
  · simp

/-- so a destination and a slot name one token. -/
theorem slotN_inj {r : Fin 512 → ℕ} {t u : Fin 512} (hd : r t / 2 = r u / 2) (h : slotN r t = slotN r u) : t = u := by
  rcases lt_trichotomy t u with l | l | l
  · have := slotN_mono hd l; omega
  · exact l
  · have := slotN_mono hd.symm l; omega

end Cert.Moe

end
-- ==== Proof.Onehot.lean ====
/-
# The tokens' rows, over the extended reals

What the kernel computes from a device's route words, read at a token: the destination, the expert there, the slot,
and the one-hot matrix of tokens against send rows, which has its one in the row of the token's destination and
slot. A one-hot sum over the tokens therefore picks the token of its row.
-/
module

public import proofs.«01_k».proof.Proof.Contents
public import proofs.«01_k».proof.Proof.Need

@[expose] public section

set_option maxRecDepth 16384

noncomputable section

namespace Cert.Moe

open Cert.KernelIdeal Cert.KernelIdeal.Gen

open Idealize.ShloMosaic
open Idealize.ShloMosaic.TcCoe

/-- The naturals of a vector of route words. -/
def nat (r : IVec S512x1 32) (t : Fin 512) : ℕ := (r (ix2 t 0)).toNat

/-- A decision's bit, widened and read as a float, is one or zero. -/
theorem bit_float (p : Prop) [Decidable p] :
    (FloatOps.sitofp .f32 (BitVec.setWidth 32 (BitVec.ofBool (decide p))) : Ideal .f32) = if p then 1 else 0 := by
  show (((BitVec.setWidth 32 (BitVec.ofBool (decide p))).toInt : ℝ) : EReal) = _
  by_cases h : p
  · rw [if_pos h]; simp [h]
  · rw [if_neg h]; simp [h]

/-- A small natural's word, read as a float, is the natural. -/
theorem nat_float {n : ℕ} (h : n < 2 ^ 31) :
    (FloatOps.sitofp .f32 (BitVec.ofNat 32 n) : Ideal .f32) = ((n : ℕ) : EReal) := by
  have e : (BitVec.ofNat 32 n).toInt = (n : ℤ) := by
    rw [BitVec.toInt_eq_toNat_of_lt] <;> rw [BitVec.toNat_ofNat] <;> omega
  show (((BitVec.ofNat 32 n).toInt : ℝ) : EReal) = _
  rw [e]; norm_cast

/-- A choice by a decision's bit. -/
theorem select_bit {α : Type} (p : Prop) [Decidable p] (a b : α) :
    Scalar.select (BitVec.ofBool (decide p)) a b = if p then a else b := by
  by_cases h : p <;> simp [Scalar.select, h]

variable {r : IVec S512x1 32}

theorem dest_read (h : Fits (nat r)) (t : Fin 512) :
    k0_pay2 (F := Ideal) r (ix2 t 0) = BitVec.ofNat 32 (nat r t / 2) := by
  pointwise [k0_pay2, k0_pay1]
  exact half_word _ (h.1 t)

theorem el_read (h : Fits (nat r)) (t : Fin 512) :
    k0_pay3 (F := Ideal) r (ix2 t 0) = ((nat r t % 2 : ℕ) : EReal) := by
  have hl := h.1 t
  have e : IntOp.subi (r (ix2 t 0)) (IntOp.muli (BitVec.ofNat 32 (nat r t / 2)) 2#32) = BitVec.ofNat 32 (nat r t % 2) := by
    apply BitVec.eq_of_toNat_eq
    simp only [IntOp.subi, IntOp.muli, nat, BitVec.toNat_sub, BitVec.toNat_mul, BitVec.toNat_ofNat] at hl ⊢
    omega
  have d := dest_read h t
  pointwise [k0_pay3, k0_pay1] at *
  rw [d, e]
  exact nat_float (by omega)

/-- Comparing the words of two destinations compares the destinations. -/
theorem eq_word {a b : ℕ} (ha : a < 2 ^ 32) (hb : b < 2 ^ 32) :
    IntOp.cmpi .eq (BitVec.ofNat 32 a) (BitVec.ofNat 32 b) = BitVec.ofBool (decide (a = b)) :=
  WordCmp.cmpi_eq_ofNat ha hb

theorem slot_read (h : Fits (nat r)) (t : Fin 512) :
    k0_pay5 (F := Ideal) r (ix2 t 0) = ((slotN (nat r) t : ℕ) : EReal) := by
  have hd : ∀ u : Fin 512, IntOp.divsi .vector (r (ix2 u 0)) 2#32 = BitVec.ofNat 32 (nat r u / 2) :=
    fun u => half_word _ (h.1 u)
  have hb : ∀ (e : Fin 16) (u : Fin 512), IntOp.cmpi .eq (BitVec.ofNat 32 e.val) (BitVec.ofNat 32 (nat r u / 2))
      = BitVec.ofBool (decide (e.val = nat r u / 2)) := fun e u => by
    have := h.1 u; exact eq_word (by omega) (by omega)
  have hs : ∀ u : Fin 512, IntOp.cmpi .slt (BitVec.ofNat 32 u.val) (BitVec.ofNat 32 t.val)
      = BitVec.ofBool (decide (u.val < t.val)) := fun u => WordCmp.cmpi_slt_ofNat (by omega) (by omega)
  pointwise [k0_pay5, k0_pay2, k0_pay1]
  simp only [hd, hb, hs, bit_float, select_bit]
  have hl := h.1 t
  rw [Finset.sum_eq_single (⟨nat r t / 2, by omega⟩ : Fin 16)]
  · rw [if_pos rfl, slotN]
    have e : ∀ u : Fin 512, ((if u.val < t.val then (1 : EReal) else 0) * if nat r t / 2 = nat r u / 2 then 1 else 0)
        = if u < t ∧ nat r t / 2 = nat r u / 2 then 1 else 0 := fun u => by
      by_cases h1 : u.val < t.val <;> by_cases h2 : nat r t / 2 = nat r u / 2 <;> simp [h1, h2, Fin.lt_def]
    simp only [e]
    rw [Finset.sum_ite, Finset.sum_const_zero, add_zero, Finset.sum_const, nsmul_one]
  · intro b _ hb
    rw [if_neg fun e => hb (Fin.ext e)]
  · intro hh; exact absurd (Finset.mem_univ _) hh

/-- Token `t`'s send row at device `c`: its slot among the sixty-four of the peer that is its destination; past the
    rows of all fifteen peers when the token stays. -/
def row (c : Dev nD) (n : Fin 512 → ℕ) (t : Fin 512) : ℕ := 64 * ((n t / 2 + 15 - c.val) % 16) + slotN n t

theorem row_inj {c : Dev nD} {n : Fin 512 → ℕ} (h : Fits n) {t u : Fin 512} (e : row c n t = row c n u) : t = u := by
  have h1 := slotN_lt h t
  have h2 := slotN_lt h u
  have h3 := h.1 t
  have h4 := h.1 u
  have hc : c.val < 16 := c.isLt
  have e' : 64 * ((n t / 2 + 15 - c.val) % 16) + slotN n t = 64 * ((n u / 2 + 15 - c.val) % 16) + slotN n u := e
  exact slotN_inj (r := n) (by omega) (by omega)

/-- The device's number as the kernel computes it is its number. -/
theorem me_word (c : Dev nD) : me c = BitVec.ofNat 32 c.val := by
  revert c; decide

/-- The one-hot matrix: a token's one is in its row. -/
theorem oh_read (h : Fits (nat r)) (c : Dev nD) (t : Fin 512) (q : Fin 960) :
    k0_pay9 (F := Ideal) (k0_pay2 (F := Ideal) r) (k0_pay5 r) k0_pay6 k0_pay7 (k0_pay8 (me c)) (ix2 t q)
      = if q.val = row c (nat r) t then 1 else 0 := by
  have hc : c.val < 16 := c.isLt
  have hl := h.1 t
  have hslot := slotN_lt h t
  have hd := dest_read h t
  have hs := slot_read h t
  have e1 : IntOp.divsi .vector (BitVec.ofNat 32 q.val) 64#32 = BitVec.ofNat 32 (q.val / 64) :=
    Routing.divsi_word _ (by omega) (by omega) (by omega)
  have e2 : IntOp.remsi .vector (BitVec.ofNat 32 q.val) 64#32 = BitVec.ofNat 32 (q.val % 64) :=
    Routing.remsi_word _ (by omega) (by omega) (by omega)
  have e3 : IntOp.addi (IntOp.addi (BitVec.ofNat 32 (q.val / 64)) 1#32) (BitVec.ofNat 32 c.val)
      = BitVec.ofNat 32 (q.val / 64 + 1 + c.val) := by
    apply BitVec.eq_of_toNat_eq
    simp only [IntOp.addi, BitVec.toNat_add, BitVec.toNat_ofNat]
    omega
  have e4 : IntOp.remsi .vector (BitVec.ofNat 32 (q.val / 64 + 1 + c.val)) 16#32 = BitVec.ofNat 32 ((q.val / 64 + 1 + c.val) % 16) :=
    Routing.remsi_word _ (by omega) (by omega) (by omega)
  have e5 : (FloatOps.sitofp .f32 (BitVec.ofNat 32 (q.val % 64)) : Ideal .f32) = ((q.val % 64 : ℕ) : EReal) :=
    nat_float (by omega)
  pointwise [k0_pay9, k0_pay8, k0_pay7, k0_pay6]
  rw [hd, hs, me_word, e1, e2, e3, e4, e5, eq_word (by omega) (by omega), WordCmp.andi_ofBool, ← Bool.decide_and, select_bit]
  refine if_congr ?_ rfl rfl
  rw [Nat.cast_inj, row]
  omega

/-- A one-hot sum over the tokens, at a row a token has, is that token's term; -/
theorem oh_sum (h : Fits (nat r)) (c : Dev nD) (t : Fin 512) (q : Fin 960) (hq : q.val = row c (nat r) t) (f : Fin 512 → EReal) :
    ∑ u : Fin 512, (if q.val = row c (nat r) u then (1 : EReal) else 0) * f u = f t := by
  rw [Finset.sum_eq_single t]
  · rw [if_pos hq, one_mul]
  · intro u _ hu
    rw [if_neg fun e => hu (row_inj h (e.symm.trans hq)), zero_mul]
  · intro hh; exact absurd (Finset.mem_univ _) hh

end Cert.Moe

end
-- ==== Proof.Values.lean ====
/-
# What a device's block of results holds, over the extended reals

Read at a token and a column. A peer's slot of the dispatch buffer holds the features and the expert of the token
whose row it is; the answer computed there is the token's features times its expert's weights; the one-hot matrix
brings it back to the token; and a token that stays is answered by the masked term instead.
-/
module

public import proofs.«01_k».proof.Proof.Onehot

@[expose] public section

set_option maxRecDepth 16384

noncomputable section

namespace Cert.Moe

open Cert.KernelIdeal Cert.KernelIdeal.Gen

open Idealize.ShloMosaic
open Idealize.ShloMosaic.TcCoe

variable (m : (ℓ : Loc nD τ sig) → Buf (Elt Ideal) ℓ) (ρ : Dev nD → PrngReg)

/-- The expert each of device `c`'s tokens is routed to. -/
def route (c : Dev nD) : Fin 512 → ℕ := nat (idxv m ρ c)

/-- The device that holds expert `e`. -/
def home (e : ℕ) : Dev nD := ⟨e / 2 % 16, Nat.mod_lt _ (by decide)⟩

/-- Expert `e`'s weights, where they are held. -/
def expertW (e : ℕ) (k : Fin 256) (h : Fin 512) : EReal :=
  ewv m ρ (home e) (ix3 (⟨e % 2, Nat.mod_lt _ (by decide)⟩ : Fin 2) k h)

/-- A token's features times its expert's weights. -/
def answer (c : Dev nD) (t : Fin 512) (h : Fin 512) : EReal :=
  ∑ k : Fin 256, xv m ρ c (ix2 t k) * expertW m ρ (route m ρ c t) k h

theorem half_bf16 : Ideal.ofBits .bf16 0x3F00#16 = (((1 : ℝ) / 2 : ℝ) : EReal) := by
  simp [Ideal.ofBits, Ideal.ieee, -EReal.coe_mul]; norm_num

theorem half_f32 : Ideal.ofBits .f32 0x3F000000#32 = (((1 : ℝ) / 2 : ℝ) : EReal) := by
  simp [Ideal.ofBits, Ideal.ieee, -EReal.coe_mul]; norm_num

/-- An expert's number at its device is below a half when it is the even one. -/
theorem lt_half (e : ℕ) : ((e % 2 : ℕ) : EReal) < (((1 : ℝ) / 2 : ℝ) : EReal) ↔ e % 2 = 0 := by
  rcases Nat.mod_two_eq_zero_or_one e with h | h <;> rw [h]
  · simp
  · simp only [Nat.cast_one, one_ne_zero, iff_false, not_lt]
    rw [show (1 : EReal) = ((1 : ℝ) : EReal) from rfl, EReal.coe_le_coe_iff]; norm_num

theorem ew0_read (d : Dev nD) (k : Fin 256) (h : Fin 512) : ew0v m ρ d (ix2 k h) = ewv m ρ d (ix3 0 k h) := by
  pointwise [ew0v, k0_pay12]
  rw [← ix3_eq_valueIdx]

theorem ew1_read (d : Dev nD) (k : Fin 256) (h : Fin 512) : ew1v m ρ d (ix2 k h) = ewv m ρ d (ix3 1 k h) := by
  pointwise [ew1v, k0_pay13]
  rw [← ix3_eq_valueIdx]

/-- The choice between the two experts of a device, made for an expert it holds, is that expert's weights. -/
theorem choose_expert (d : Dev nD) (e : ℕ) (hd : d = home e) (x : Fin 256 → EReal) (h : Fin 512) :
    (if ((e % 2 : ℕ) : EReal) < (((1 : ℝ) / 2 : ℝ) : EReal) then ∑ k : Fin 256, x k * ew0v m ρ d (ix2 k h)
      else ∑ k : Fin 256, x k * ew1v m ρ d (ix2 k h)) = ∑ k : Fin 256, x k * expertW m ρ e k h := by
  subst hd
  have key : ∀ a : Fin 2, a.val = e % 2 → ∀ k, ewv m ρ (home e) (ix3 a k h) = expertW m ρ e k h := fun a ha k => by
    rw [expertW]; congr 2; exact Fin.ext ha
  by_cases h2 : e % 2 = 0
  · rw [if_pos ((lt_half e).2 h2)]
    exact Finset.sum_congr rfl fun k _ => by rw [ew0_read, key 0 h2.symm]
  · rw [if_neg fun hh => h2 ((lt_half e).1 hh)]
    exact Finset.sum_congr rfl fun k _ => by rw [ew1_read, key 1 (by show (1 : ℕ) = _; omega)]

variable {m ρ}

/-! ## The dispatch rows -/

theorem x_read (c : Dev nD) (t : Fin 512) (k : Fin 256) : xcv m ρ c (ix2 t k) = xv m ρ c (ix2 t k) := by
  pointwise [xcv, k0_pay4]

/-- The one-hot matrix of device `c`. -/
theorem ohv_read (c : Dev nD) (H : Fits (route m ρ c)) (t : Fin 512) (q : Fin 960) :
    ohv m ρ c (ix2 t q) = if q.val = row c (route m ρ c) t then 1 else 0 :=
  oh_read (r := idxv m ρ c) H c t q

theorem sbA_read (c : Dev nD) (H : Fits (route m ρ c)) (t : Fin 512) (j : Fin 15) (s : Fin 64)
    (hr : j.val * 64 + s.val = row c (route m ρ c) t) (k : Fin 256) : sbA m ρ c (ix3 j s k) = xv m ρ c (ix2 t k) := by
  have key : ∀ (u : Fin 512) (q : Fin 960), k0_pay9 (F := Ideal) (destv m ρ c) (slotv m ρ c) k0_pay6 k0_pay7 (k0_pay8 (me c)) (ix2 u q)
      = if q.val = row c (route m ρ c) u then 1 else 0 := fun u q => ohv_read c H u q
  pointwise [sbA, k0_pay10]
  simp only [key, x_read]
  exact oh_sum (r := idxv m ρ c) H c t ⟨j.val * 64 + s.val, by omega⟩ hr _

theorem sbB_read (c : Dev nD) (H : Fits (route m ρ c)) (t : Fin 512) (j : Fin 15) (s : Fin 64)
    (hr : j.val * 64 + s.val = row c (route m ρ c) t) (k : Fin 128) :
    sbB m ρ c (ix3 j s k) = ((route m ρ c t % 2 : ℕ) : EReal) := by
  have key : ∀ (u : Fin 512) (q : Fin 960), k0_pay9 (F := Ideal) (destv m ρ c) (slotv m ρ c) k0_pay6 k0_pay7 (k0_pay8 (me c)) (ix2 u q)
      = if q.val = row c (route m ρ c) u then 1 else 0 := fun u q => ohv_read c H u q
  have ke : ∀ u : Fin 512, elv m ρ c (ix2 u 0) = ((route m ρ c u % 2 : ℕ) : EReal) := fun u => el_read (r := idxv m ρ c) H u
  pointwise [sbB, k0_pay11]
  simp only [key, ke]
  exact oh_sum (r := idxv m ρ c) H c t ⟨j.val * 64 + s.val, by omega⟩ hr _

theorem sb_x (c : Dev nD) (H : Fits (route m ρ c)) (t : Fin 512) (j : Fin 15) (s : Fin 64)
    (hr : j.val * 64 + s.val = row c (route m ρ c) t) (k : Fin 384) (k' : Fin 256) (hk : k.val = k'.val) :
    sb m ρ c (ix3 j s k) = xv m ρ c (ix2 t k') := by
  rw [← sbA_read c H t j s hr k']
  have hk2 : ((ix3 j s k : S15x64x384.Idx) 2).val < 256 := by show k.val < 256; omega
  unfold sb
  rw [dif_pos hk2]
  show sbA m ρ c (ValueIdx.ix3 j s (⟨k.val, hk2⟩ : Fin 256)) = _
  rw [← ix3_eq_valueIdx, show (⟨k.val, hk2⟩ : Fin 256) = k' from Fin.ext hk]

theorem sb_el (c : Dev nD) (H : Fits (route m ρ c)) (t : Fin 512) (j : Fin 15) (s : Fin 64)
    (hr : j.val * 64 + s.val = row c (route m ρ c) t) :
    sb m ρ c (ix3 j s 256) = ((route m ρ c t % 2 : ℕ) : EReal) := by
  rw [← sbB_read c H t j s hr 0]
  have hk2 : ¬((ix3 j s 256 : S15x64x384.Idx) 2).val < 256 := by show ¬(256 : ℕ) < 256; omega
  unfold sb
  rw [dif_neg hk2]
  show sbB m ρ c (ValueIdx.ix3 j s (0 : Fin 128)) = _
  rw [← ix3_eq_valueIdx]

/-! ## The answers -/

/-- What device `c`'s peer `j` holds for it in the dispatch buffer is what `c` packed for that peer. -/
theorem disp_read (c : Dev nD) (j : Fin 15) (s : Fin 64) (k : Fin 384) :
    disp m ρ (peer c j) (ix3 (opp j) s k) = sb m ρ c (ix3 j s k) := by
  show sb m ρ (peer (peer c j) (opp j)) (ValueIdx.ix3 (opp (opp j)) s k) = _
  rw [peer_opp, opp_opp, ← ix3_eq_valueIdx]

/-- Slot `j` of an array of fifteen, among the three it is taken with. -/
theorem three_read {α : Type} {w : ℕ} (f : (⟨3, ![15, 64, w]⟩ : Shape).Idx → α) (j : Fin 15) (hb : j.val / 3 < 5)
    (hm : j.val % 3 < 3) (s : Fin 64) (k : Fin w) : three f (j.val / 3) hb (ix3 ⟨j.val % 3, hm⟩ s k) = f (ix3 j s k) := by
  show f (ValueIdx.ix3 (⟨3 * (j.val / 3) + j.val % 3, by omega⟩ : Fin 15) s k) = _
  rw [← ix3_eq_valueIdx]
  refine congrArg f ?_
  refine congrArg (fun a : Fin 15 => ix3 a s k) (Fin.ext ?_)
  show 3 * (j.val / 3) + j.val % 3 = j.val
  omega

/-- The answers computed for three slots of rows: each row's features times the weights its expert's number chooses. -/
theorem pay14_read (a b : FVec Ideal S256x512 .bf16) (v : Vec Ideal S3x64x384 .fp8e4m3) (p : Fin 3) (s : Fin 64) (h : Fin 512) :
    k0_pay14 a b v (ix3 p s h) = if v (ix3 p s 256) < (((1 : ℝ) / 2 : ℝ) : EReal)
      then ∑ k : Fin 256, v (ix3 p s ⟨k.val, by omega⟩) * a (ix2 k h)
      else ∑ k : Fin 256, v (ix3 p s ⟨k.val, by omega⟩) * b (ix2 k h) := by
  pointwise [k0_pay14]
  rw [half_bf16]

/-- The answer that comes back to device `c` in slot `s` from its peer `j`, for the token whose row that is. -/
theorem resp_read (c : Dev nD) (H : Fits (route m ρ c)) (t : Fin 512) (j : Fin 15) (s : Fin 64)
    (hr : j.val * 64 + s.val = row c (route m ρ c) t) (h : Fin 512) : resp m ρ c (ix3 j s h) = answer m ρ c t h := by
  have hd : peer c j = home (route m ρ c t) := by
    have h1 := slotN_lt H t
    have h2 := H.1 t
    have hc : c.val < 16 := c.isLt
    have hr' : j.val * 64 + s.val = 64 * ((route m ρ c t / 2 + 15 - c.val) % 16) + slotN (route m ρ c) t := hr
    apply Fin.ext
    show (c.val + j.val + 1) % 16 = route m ρ c t / 2 % 16
    omega
  show k0_pay14 (ew0v m ρ (peer c j)) (ew1v m ρ (peer c j))
    (three (disp m ρ (peer c j)) ((opp j).val / 3) (by have := (opp j).isLt; omega))
    (ValueIdx.ix3 (⟨(opp j).val % 3, Nat.mod_lt _ (by decide)⟩ : Fin 3) s h) = _
  rw [← ix3_eq_valueIdx]
  have kt : ∀ k : Fin 384, three (disp m ρ (peer c j)) ((opp j).val / 3) (by have := (opp j).isLt; omega)
      (ix3 (⟨(opp j).val % 3, Nat.mod_lt _ (by decide)⟩ : Fin 3) s k) = sb m ρ c (ix3 j s k) :=
    fun k => (three_read _ _ _ _ s k).trans (disp_read c j s k)
  rw [pay14_read]
  simp only [kt]
  rw [sb_el c H t j s hr]
  have kx : ∀ k : Fin 256, sb m ρ c (ix3 j s ⟨k.val, by omega⟩) = xv m ρ c (ix2 t k) := fun k => sb_x c H t j s hr _ k rfl
  simp only [kx]
  exact choose_expert m ρ _ _ hd (fun k => xv m ρ c (ix2 t k)) h

end Cert.Moe

end
-- ==== Proof.Result.lean ====
/-
# A device's block of results, over the extended reals

The five gathered batches and the masked term for the tokens that stay add up to each token's one answer; the gate
is the probability of the token's expert; and the stored block is the shared expert's product plus the gate times
the answer.
-/
module

public import proofs.«01_k».proof.Proof.Values

@[expose] public section

set_option maxRecDepth 16384

noncomputable section

namespace Cert.Moe

open Cert.KernelIdeal Cert.KernelIdeal.Gen

open Idealize.ShloMosaic
open Idealize.ShloMosaic.TcCoe

/-- The router's score of expert `e` for the features `x`; -/
def score (x : Fin 256 → EReal) (w : Fin 256 → Fin 32 → EReal) (e : Fin 32) : EReal := ∑ k : Fin 256, x k * w k e

/-- the greatest of the scores; -/
def top (x : Fin 256 → EReal) (w : Fin 256 → Fin 32 → EReal) : EReal :=
  Finset.fold max (Ideal.ofBits .f32 0xFF800000#32) (fun e : Fin 32 => score x w e) Finset.univ

/-- and the softmax of the scores at expert `e`. -/
def prob (x : Fin 256 → EReal) (w : Fin 256 → Fin 32 → EReal) (e : Fin 32) : EReal :=
  Ideal.div (Ideal.exp (score x w e - top x w)) (∑ f : Fin 32, Ideal.exp (score x w f - top x w))

/-- A token's expert, as one of the thirty-two. -/
def pick (n : ℕ) : Fin 32 := ⟨n % 32, Nat.mod_lt _ (by decide)⟩

variable {m : (ℓ : Loc nD τ sig) → Buf (Elt Ideal) ℓ} {ρ : Dev nD → PrngReg}

/-- The gate of a token is the probability of its expert. -/
theorem pv_read (c : Dev nD) (H : Fits (route m ρ c)) (t : Fin 512) :
    pv m ρ c (ix2 t 0) = prob (fun k => xv m ρ c (ix2 t k)) (fun k e => rwv m ρ c (ix2 k e)) (pick (route m ρ c t)) := by
  have hl : route m ρ c t < 32 := H.1 t
  have hw : ∀ e : Fin 32, IntOp.cmpi .eq (BitVec.ofNat 32 e.val) (idxv m ρ c (ix2 t 0)) = BitVec.ofBool (decide (e.val = route m ρ c t)) :=
    fun e => by
      rw [WordCmp.cmpi_eq_eq_toNat, BitVec.toNat_ofNat]
      congr 1
      have : e.val % 2 ^ 32 = e.val := Nat.mod_eq_of_lt (by omega)
      rw [this]; rfl
  pointwise [pv, k0_pay24, k0_pay1]
  simp only [hw, select_bit]
  rw [Finset.sum_eq_single (pick (route m ρ c t))]
  · rw [if_pos (show (pick (route m ρ c t)).val = route m ρ c t from Nat.mod_eq_of_lt hl)]; rfl
  · intro b _ hb
    rw [if_neg fun e => hb (Fin.ext (by rw [e]; exact (Nat.mod_eq_of_lt hl).symm))]
  · intro hh; exact absurd (Finset.mem_univ _) hh

/-- A batch of three peers gives a token its answer when its row is among the batch's, and nothing otherwise. -/
theorem batch_read (c : Dev nD) (H : Fits (route m ρ c)) (t : Fin 512) (h : Fin 512) (b : ℕ) (hb : b < 5)
    (q : Fin 192 → Fin 960) (hq : ∀ x, (q x).val = 192 * b + x.val) (j : Fin 192 → Fin 3) (hj : ∀ x, (j x).val = x.val / 64)
    (s : Fin 192 → Fin 64) (hs : ∀ x, (s x).val = x.val % 64) :
    ∑ x : Fin 192, ohv m ρ c (ix2 t (q x)) * three (resp m ρ c) b hb (ix3 (j x) (s x) h)
      = if row c (route m ρ c) t / 192 = b then answer m ρ c t h else 0 := by
  have e1 : ∀ x : Fin 192, ohv m ρ c (ix2 t (q x)) * three (resp m ρ c) b hb (ix3 (j x) (s x) h)
      = if (q x).val = row c (route m ρ c) t then answer m ρ c t h else 0 := fun x => by
    rw [ohv_read c H t]
    by_cases hx : (q x).val = row c (route m ρ c) t
    · rw [if_pos hx, if_pos hx, one_mul]
      show resp m ρ c (ValueIdx.ix3 (⟨3 * b + (j x).val, _⟩ : Fin 15) (s x) h) = _
      rw [← ix3_eq_valueIdx]
      refine resp_read c H t _ _ ?_ h
      have h1 := hq x; have h2 := hj x; have h3 := hs x
      show (3 * b + (j x).val) * 64 + (s x).val = _
      omega
    · rw [if_neg hx, if_neg hx, zero_mul]
  rw [Finset.sum_congr rfl fun x _ => e1 x]
  by_cases hr : row c (route m ρ c) t / 192 = b
  · rw [if_pos hr, Finset.sum_eq_single (⟨row c (route m ρ c) t % 192, Nat.mod_lt _ (by decide)⟩ : Fin 192)]
    · rw [if_pos]
      rw [hq]; show 192 * b + row c (route m ρ c) t % 192 = _; omega
    · intro x _ hx
      refine if_neg fun e => hx (Fin.ext ?_)
      have h1 := hq x
      show x.val = row c (route m ρ c) t % 192
      omega
    · intro hh; exact absurd (Finset.mem_univ _) hh
  · rw [if_neg hr]
    refine Finset.sum_eq_zero fun x _ => if_neg fun e => hr ?_
    have h1 := hq x
    omega

/-- The masked term: the answer of a token that stays, and nothing for one that leaves. -/
theorem acc0_read (c : Dev nD) (H : Fits (route m ρ c)) (t h : Fin 512) :
    acc0 m ρ c (ix2 t h) = if route m ρ c t / 2 = c.val then answer m ρ c t h else 0 := by
  have hl : route m ρ c t < 32 := H.1 t
  have hc : c.val < 16 := c.isLt
  have kd : destv m ρ c (ix2 t 0) = BitVec.ofNat 32 (route m ρ c t / 2) := dest_read (r := idxv m ρ c) H t
  have ke : elv m ρ c (ix2 t 0) = ((route m ρ c t % 2 : ℕ) : EReal) := el_read (r := idxv m ρ c) H t
  pointwise [acc0, k0_pay26]
  rw [kd, me_word, eq_word (by omega) (by omega), select_bit]
  by_cases hh : route m ρ c t / 2 = c.val
  · rw [if_pos hh, if_pos hh]
    pointwise [locv, k0_pay25]
    simp only [x_read]
    rw [ke, half_f32]
    exact choose_expert m ρ c _ (Fin.ext (by show c.val = route m ρ c t / 2 % 16; omega)) (fun k => xv m ρ c (ix2 t k)) h
  · rw [if_neg hh, if_neg hh]

/-- The stored block at a token and a column. -/
theorem outv_read (c : Dev nD) (H : Fits (route m ρ c)) (t h : Fin 512) :
    outv m ρ c (ix2 t h) = ∑ k : Fin 256, xv m ρ c (ix2 t k) * swv m ρ c (ix2 k h)
      + prob (fun k => xv m ρ c (ix2 t k)) (fun k e => rwv m ρ c (ix2 k e)) (pick (route m ρ c t)) * answer m ρ c t h := by
  have hl : route m ρ c t < 32 := H.1 t
  have hc : c.val < 16 := c.isLt
  have hs := slotN_lt H t
  pointwise [outv, k0_pay31, acc4, k0_pay30, acc3, k0_pay29, acc2, k0_pay28, acc1, k0_pay27]
  rw [pv_read c H, acc0_read c H]
  simp only [x_read]
  rw [batch_read c H t h 0 (by decide) _ (fun x => by simp) _ (fun x => rfl) _ (fun x => rfl),
    batch_read c H t h 1 (by decide) _ (fun x => rfl) _ (fun x => rfl) _ (fun x => rfl),
    batch_read c H t h 2 (by decide) _ (fun x => rfl) _ (fun x => rfl) _ (fun x => rfl),
    batch_read c H t h 3 (by decide) _ (fun x => rfl) _ (fun x => rfl) _ (fun x => rfl),
    batch_read c H t h 4 (by decide) _ (fun x => rfl) _ (fun x => rfl) _ (fun x => rfl)]
  congr 2
  have hr : row c (route m ρ c) t = 64 * ((route m ρ c t / 2 + 15 - c.val) % 16) + slotN (route m ρ c) t := rfl
  by_cases hh : route m ρ c t / 2 = c.val
  · rw [if_pos hh]
    have h5 : row c (route m ρ c) t / 192 = 5 := by omega
    simp [h5]
  · rw [if_neg hh]
    have h5 : row c (route m ρ c) t / 192 < 5 := by omega
    generalize row c (route m ρ c) t / 192 = b at h5
    interval_cases b <;> simp

end Cert.Moe

end
-- ==== Proof.Expected.lean ====
/-
# The reference's result, over the extended reals

Read at a token whose expert is one of the thirty-two: the two gathers read the expert's column of the softmax and
the expert's weights, their index words being in range, so the row is the shared expert's product plus the gate times
the token's features times its expert's weights.
-/
module

public import proofs.«01_k».proof.Proof.Gen.ReferenceIdeal
public import proofs.«01_k».proof.Proof.Gen.ReferenceIdeal.Read
public import proofs.«01_k».proof.Proof.Result
public import Idealize.ShloMosaic.Lib.ReduceAll

@[expose] public section

set_option maxRecDepth 16384

noncomputable section

namespace Cert.Moe

open Cert.ReferenceIdeal Cert.ReferenceIdeal.Gen Cert.ReferenceIdeal.Read

open Idealize.ShloMosaic
open Idealize.ShloMosaic.TcCoe

/-- An expert's number, as a word read signed. -/
theorem expert_int (e : Fin 32) : (BitVec.ofNat 32 e.val).toInt.toNat = e.val := by revert e; decide

/-- The gather along the softmax's columns, at a row: the column its index word names, when that is one. -/
theorem gather_col (x : S8192x32.Idx → EReal) (idx : IVec S8192x1x1 32) (T : Fin 8192) (e : Fin 32)
    (he : idx (ix3 T 0 0) = BitVec.ofNat 32 e.val) :
    Host.gather gather_S8192x32_S8192x1x1_S8192x1_n_1_0_0_1_2_11 x idx (ix2 T 0) = x (ix2 T e) := by
  unfold Host.gather
  refine congrArg x (funext fun a => Fin.ext ?_)
  show gather_S8192x32_S8192x1x1_S8192x1_n_1_0_0_1_2_11.start (ix2 T 0) idx a
    + gather_S8192x32_S8192x1x1_S8192x1_n_1_0_0_1_2_11.batchCoord (ix2 T 0) a
    + gather_S8192x32_S8192x1x1_S8192x1_n_1_0_0_1_2_11.offCoord (ix2 T 0) a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.2 rfl),
      GatherDims.offCoord_eq_zero _ _ _ (by decide), Nat.zero_add, Nat.add_zero]
    unfold GatherDims.batchCoord
    rw [dif_pos (show (0 : Fin S8192x32.rank) ∈ gather_S8192x32_S8192x1x1_S8192x1_n_1_0_0_1_2_11.operandBatchingDims from List.mem_singleton.2 rfl)]
    rfl
  · rw [GatherDims.batchCoord_eq_zero _ _ _ (by decide), GatherDims.offCoord_eq_zero _ _ _ (by decide)]
    simp only [Nat.add_zero]
    unfold GatherDims.start
    rw [dif_pos (show (1 : Fin S8192x32.rank) ∈ gather_S8192x32_S8192x1x1_S8192x1_n_1_0_0_1_2_11.startIndexMap from List.mem_singleton.2 rfl)]
    have hsi : gather_S8192x32_S8192x1x1_S8192x1_n_1_0_0_1_2_11.siIdx (ix2 T 0)
        ⟨List.idxOf (1 : Fin 2) gather_S8192x32_S8192x1x1_S8192x1_n_1_0_0_1_2_11.startIndexMap,
          List.idxOf_lt_length_iff.2 (List.mem_singleton.2 rfl)⟩ = ix3 T 0 0 := by
      funext b; refine Fin.ext ?_
      match b with
      | ⟨0, _⟩ => rfl
      | ⟨1, _⟩ => rfl
      | ⟨2, _⟩ => rfl
    have e1 : (BitVec.ofNat 32 e.val).toInt.toNat = e.val := expert_int e
    rw [hsi, he, e1]
    show min e.val (32 - 1) = e.val
    omega

/-- The gather of whole experts' weights, at an element: that of the expert its index word names, when that is one. -/
theorem gather_expert (x : S32x256x512.Idx → EReal) (idx : IVec S8192x1 32) (T : Fin 8192) (k : Fin 256) (h : Fin 512) (e : Fin 32)
    (he : idx (ix2 T 0) = BitVec.ofNat 32 e.val) :
    Host.gather gather_S32x256x512_S8192x1_S8192x256x512_12_0_n_n_0_1_1256512 x idx (ix3 T k h) = x (ix3 e k h) := by
  unfold Host.gather
  refine congrArg x (funext fun a => Fin.ext ?_)
  show gather_S32x256x512_S8192x1_S8192x256x512_12_0_n_n_0_1_1256512.start (ix3 T k h) idx a
    + gather_S32x256x512_S8192x1_S8192x256x512_12_0_n_n_0_1_1256512.batchCoord (ix3 T k h) a
    + gather_S32x256x512_S8192x1_S8192x256x512_12_0_n_n_0_1_1256512.offCoord (ix3 T k h) a = _
  rw [GatherDims.batchCoord_eq_zero _ _ _ List.not_mem_nil, Nat.add_zero]
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.offCoord_eq_zero _ _ _ (by decide), Nat.add_zero]
    unfold GatherDims.start
    rw [dif_pos (show (0 : Fin S32x256x512.rank) ∈ gather_S32x256x512_S8192x1_S8192x256x512_12_0_n_n_0_1_1256512.startIndexMap from List.mem_singleton.2 rfl)]
    have hsi : gather_S32x256x512_S8192x1_S8192x256x512_12_0_n_n_0_1_1256512.siIdx (ix3 T k h)
        ⟨List.idxOf (0 : Fin 3) gather_S32x256x512_S8192x1_S8192x256x512_12_0_n_n_0_1_1256512.startIndexMap,
          List.idxOf_lt_length_iff.2 (List.mem_singleton.2 rfl)⟩ = ix2 T 0 := by
      funext b; refine Fin.ext ?_
      match b with
      | ⟨0, _⟩ => rfl
      | ⟨1, _⟩ => rfl
    have e1 : (BitVec.ofNat 32 e.val).toInt.toNat = e.val := expert_int e
    rw [hsi, he, e1]
    show min e.val (32 - 1) = e.val
    omega
  · unfold GatherDims.start GatherDims.offCoord
    rw [dif_neg (by decide), dif_pos (by decide), Nat.zero_add]
    rfl
  · unfold GatherDims.start GatherDims.offCoord
    rw [dif_neg (by decide), dif_pos (by decide), Nat.zero_add]
    rfl

variable (x0 : S8192x256.Idx → EReal) (x1 : S256x32.Idx → EReal) (x2 : IVec S8192x1 32) (x3 : S32x256x512.Idx → EReal)
  (x4 : S256x512.Idx → EReal)

/-- The softmax, at a token and an expert. -/
theorem soft_read (T : Fin 8192) (e : Fin 32) :
    val_main_v13 (F := Ideal) x0 x1 (ix2 T e) = prob (fun k => x0 (ix2 T k)) (fun k f => x1 (ix2 k f)) e := by
  pointwise [val_main_v13, val_main_v12, val_main_v11, val_main_v10, val_main_v9, val_main_v8, val_main_v7, val_main_v6,
    val_main_v5, val_main_v4, val_main_v1, val_main_v0, val_main_cst, val_main_cst_0]
  rfl

/-- A route word in range is not moved by the two wraps of negative indices; -/
theorem wrap_word {n : ℕ} (h : n < 32) :
    Scalar.select (IntOp.cmpi .slt (BitVec.ofNat 32 n) 0#32) (IntOp.addi (BitVec.ofNat 32 n) 32#32) (BitVec.ofNat 32 n)
      = BitVec.ofNat 32 n := by
  interval_cases n <;> decide

/-- A word is its natural's. -/
theorem word_of {x : BitVec 32} : x = BitVec.ofNat 32 x.toNat := by simp

/-- so the softmax's gather is indexed by the token's expert; -/
theorem index_col (T : Fin 8192) (h : (x2 (ix2 T 0)).toNat < 32) :
    val_main_call0_v5 (F := Ideal) x2 (ix3 T 0 0) = BitVec.ofNat 32 (pick (x2 (ix2 T 0)).toNat).val := by
  have e : (pick (x2 (ix2 T 0)).toNat).val = (x2 (ix2 T 0)).toNat := Nat.mod_eq_of_lt h
  rw [e, ← wrap_word h]
  pointwise [val_main_call0_v5, val_main_call0_v4, val_main_call0_v3, val_main_call0_v2, val_main_call0_v1, val_main_call0_v0,
    val_main_call0_c, val_main_call0_c_0]
  rw [← word_of]

/-- and the weights' gather too. -/
theorem index_expert (T : Fin 8192) (h : (x2 (ix2 T 0)).toNat < 32) :
    val_main_v22 (F := Ideal) x2 (ix2 T 0) = BitVec.ofNat 32 (pick (x2 (ix2 T 0)).toNat).val := by
  have e : (pick (x2 (ix2 T 0)).toNat).val = (x2 (ix2 T 0)).toNat := Nat.mod_eq_of_lt h
  rw [e, ← wrap_word h]
  pointwise [val_main_v22, val_main_v21, val_main_v20, val_main_v19, val_main_v18, val_main_v17, val_main_v16, val_main_c,
    val_main_c_1]
  rw [← word_of]

/-- The index being in range, the gathered probability is kept. -/
theorem in_range (T : Fin 8192) (h : (x2 (ix2 T 0)).toNat < 32) : val_main_call0_v12 (F := Ideal) x2 (ix2 T 0) = 1#1 := by
  have k := index_col x2 T h
  pointwise [val_main_call0_v12, val_main_call0_v11, val_main_call0_v10, val_main_call0_v9, val_main_call0_v8, val_main_call0_v7,
    val_main_call0_v6, val_main_call0_c_3, val_main_call0_c_2, val_main_call0_c_1]
  rw [show (Finset.univ : Finset (Fin 1)) = {0} from rfl, Finset.fold_singleton, k]
  generalize pick (x2 (ix2 T 0)).toNat = e
  revert e; decide

/-- The reference's result at a token whose expert is in range. -/
theorem expected_read (T : Fin 8192) (h : Fin 512) (hr : (x2 (ix2 T 0)).toNat < 32) :
    val_main_v27 (F := Ideal) x0 x1 x2 x3 x4 (ix2 T h) = ∑ k : Fin 256, x0 (ix2 T k) * x4 (ix2 k h)
      + prob (fun k => x0 (ix2 T k)) (fun k f => x1 (ix2 k f)) (pick (x2 (ix2 T 0)).toNat)
        * ∑ k : Fin 256, x0 (ix2 T k) * x3 (ix3 (pick (x2 (ix2 T 0)).toNat) k h) := by
  have hp : val_main_v15 (F := Ideal) x0 x1 x2 (ix2 T 0) = prob (fun k => x0 (ix2 T k)) (fun k f => x1 (ix2 k f)) (pick (x2 (ix2 T 0)).toNat) := by
    rw [val_main_v15_apply, in_range x2 T hr]
    show val_main_call0_v13 (F := Ideal) x0 x1 x2 (ix2 T 0) = _
    unfold val_main_call0_v13
    rw [gather_col _ _ T _ (index_col x2 T hr), soft_read]
  have hw : ∀ k : Fin 256, val_main_v23 (F := Ideal) x2 x3 (ix3 T k h) = x3 (ix3 (pick (x2 (ix2 T 0)).toNat) k h) := fun k => by
    unfold val_main_v23
    rw [gather_expert _ _ T k h _ (index_expert x2 T hr)]
    rfl
  pointwise [val_main_v27, val_main_v26, val_main_v25, val_main_v24, val_main_v14, val_main_v3, val_main_v0]
  simp only [hp, hw]

end Cert.Moe

end
-- ==== Proof.Algebraic.lean ====
/-
# The value claim

Each window's one block is its whole array, so the kernel's blocks are its arguments and its result. When the
arguments are the devices' blocks of the reference's, the result is the device's block of the reference's result:
token `t` of device `c` is token `512 c + t` of the whole, and expert `e`'s weights are the second or first of the
two that device `e / 2` holds.
-/
module

public import proofs.«01_k».proof.Defs
public import proofs.«01_k».proof.Proof.Frames
public import proofs.«01_k».proof.Proof.Expected
public import proofs.«01_k».proof.Proof.Need

@[expose] public section

set_option maxRecDepth 16384

noncomputable section

namespace Cert.Moe

open Cert.KernelIdeal Cert.KernelIdeal.Gen
open Idealize.ShloMosaic Idealize.ShloMosaic.TcCoe Idealize.SL.Sem

section Whole

variable {F : FTy → Type} [FloatOps F]
variable (m : (ℓ : Loc nD τ sig) → Buf (Elt F) ℓ) (ρ : Dev nD → PrngReg)

/-- The token block is the token array; -/
theorem xv_eq (c : Dev nD) : xv m ρ c = m ((c.tc : Thread nD τ).loc main_arg0) :=
  Memref.read_access_unit_zero (Elt F) main_arg0 (funext fun a => by fin_cases a <;> decide) (fun a => by fin_cases a <;> decide) _

/-- the router block the router array; -/
theorem rwv_eq (c : Dev nD) : rwv m ρ c = m ((c.tc : Thread nD τ).loc main_arg1) :=
  Memref.read_access_unit_zero (Elt F) main_arg1 (funext fun a => by fin_cases a <;> decide) (fun a => by fin_cases a <;> decide) _

/-- the routes block the routes array; -/
theorem idxv_eq (c : Dev nD) : idxv m ρ c = m ((c.tc : Thread nD τ).loc main_arg2) :=
  Memref.read_access_unit_zero (Elt F) main_arg2 (funext fun a => by fin_cases a <;> decide) (fun a => by fin_cases a <;> decide) _

/-- the experts' block the experts' array; -/
theorem ewv_eq (c : Dev nD) : ewv m ρ c = m ((c.tc : Thread nD τ).loc main_arg3) :=
  Memref.read_access_unit_zero (Elt F) main_arg3 (funext fun a => by fin_cases a <;> decide) (fun a => by fin_cases a <;> decide) _

/-- and the shared expert's block its array. -/
theorem swv_eq (c : Dev nD) : swv m ρ c = m ((c.tc : Thread nD τ).loc main_arg4) :=
  Memref.read_access_unit_zero (Elt F) main_arg4 (funext fun a => by fin_cases a <;> decide) (fun a => by fin_cases a <;> decide) _

/-- The result array ends at the block the body stored. -/
theorem final_out (c : Dev nD) : finalA m ρ c 5 = outv m ρ c := by
  have whole := Memref.read_access_unit_zero (Elt F) main_v1 (off := fun a => (win0_5.index (0 : Fin 1)) a * main_v1.ty.shape.size a)
    (funext fun a => by fin_cases a <;> decide) (fun a => by fin_cases a <;> decide) (finalA m ρ c 5)
  have stored := (dats m ρ 0 c).arrAt_succ 5 (0 : Fin 1)
  rw [if_pos (show (cfg0.win 5).flush (0 : Fin 1) = true by decide)] at stored
  exact whole.symm.trans ((congrArg _ stored).trans (View.read_write_univ _ _))

end Whole

/-- Token `t` of device `c`, among all the tokens. -/
def token (c : Fin 16) (t : Fin 512) : Fin 8192 := ⟨c.val * 512 + t.val, by omega⟩

/-- An array cut along its rows among the devices: row `t` of device `c` is the row of its token. -/
theorem rows_apply {α : Type} {n : ℕ} (c : Fin 16) (v : (⟨2, ![8192, n]⟩ : Shape).Idx → α)
    (H : Layout.Tiles ⟨2, ![512, n]⟩ ⟨2, ![8192, n]⟩ 0 16) (t : Fin 512) (k : Fin n) :
    Layout.block ⟨2, ![512, n]⟩ ⟨2, ![8192, n]⟩ 0 16 c v H (ix2 t k) = v (ix2 (token c t) k) := by
  rw [Layout.block_apply]
  refine congrArg v (funext fun b => Fin.ext ?_)
  rw [Layout.Tiles.idx_val]
  fin_cases b <;> rfl

/-- The experts cut among the devices: expert `e`'s weights are the `e % 2`nd of those its device holds. -/
theorem experts_apply {α : Type} (v : (⟨3, ![32, 256, 512]⟩ : Shape).Idx → α)
    (H : Layout.Tiles ⟨3, ![2, 256, 512]⟩ ⟨3, ![32, 256, 512]⟩ 0 16) (e : ℕ) (he : e < 32) (k : Fin 256) (h : Fin 512) :
    Layout.block ⟨3, ![2, 256, 512]⟩ ⟨3, ![32, 256, 512]⟩ 0 16 (home e) v H
      (ix3 (⟨e % 2, Nat.mod_lt _ (by decide)⟩ : Fin 2) k h) = v (ix3 (pick e) k h) := by
  rw [Layout.block_apply]
  refine congrArg v (funext fun b => Fin.ext ?_)
  rw [Layout.Tiles.idx_val]
  fin_cases b
  · show e / 2 % 16 * 2 + e % 2 = e % 32
    omega
  · rfl
  · rfl

/-- A device's block of the kernel's results is its block of the reference's. -/
theorem outv_block {m : (ℓ : Loc nD τ sig) → Buf (Elt Ideal) ℓ} {ρ : Dev nD → PrngReg}
    (x0 : (⟨2, ![8192, 256]⟩ : Shape).Idx → EReal) (x1 : (⟨2, ![256, 32]⟩ : Shape).Idx → EReal)
    (x2 : (⟨2, ![8192, 1]⟩ : Shape).Idx → BitVec 32) (x3 : (⟨3, ![32, 256, 512]⟩ : Shape).Idx → EReal)
    (x4 : (⟨2, ![256, 512]⟩ : Shape).Idx → EReal)
    (H : ∀ c, Fits (route m ρ c))
    (h0 : ∀ c : Dev nD, xv m ρ c = Layout.block ⟨2, ![512, 256]⟩ ⟨2, ![8192, 256]⟩ 0 16 c x0)
    (h1 : ∀ c : Dev nD, rwv m ρ c = x1)
    (h2 : ∀ c : Dev nD, idxv m ρ c = Layout.block ⟨2, ![512, 1]⟩ ⟨2, ![8192, 1]⟩ 0 16 c x2)
    (h3 : ∀ c : Dev nD, ewv m ρ c = Layout.block ⟨3, ![2, 256, 512]⟩ ⟨3, ![32, 256, 512]⟩ 0 16 c x3)
    (h4 : ∀ c : Dev nD, swv m ρ c = x4) (c : Dev nD) :
    outv m ρ c = Layout.block ⟨2, ![512, 512]⟩ ⟨2, ![8192, 512]⟩ 0 16 c
      (Cert.ReferenceIdeal.Read.val_main_v27 (F := Ideal) x0 x1 x2 x3 x4) := by
  have hx : ∀ t k, xv m ρ c (ix2 t k) = x0 (ix2 (token c t) k) := fun t k =>
    (congrFun (h0 c) _).trans (rows_apply c x0 (by decide) t k)
  have hr : ∀ t, route m ρ c t = (x2 (ix2 (token c t) 0)).toNat := fun t =>
    congrArg BitVec.toNat ((congrFun (h2 c) _).trans (rows_apply c x2 (by decide) t 0))
  have hw : ∀ e, e < 32 → ∀ k h, expertW m ρ e k h = x3 (ix3 (pick e) k h) := fun e he k h =>
    (congrFun (h3 (home e)) _).trans (experts_apply x3 (by decide) e he k h)
  refine funext fun (i : (⟨2, ![512, 512]⟩ : Shape).Idx) => ?_
  obtain ⟨t, h, rfl⟩ : ∃ t h : Fin 512, i = ix2 t h := ⟨i 0, i 1, by funext a; fin_cases a <;> rfl⟩
  have hlt : (x2 (ix2 (token c t) 0)).toNat < 32 := hr t ▸ (H c).1 t
  rw [rows_apply, expected_read x0 x1 x2 x3 x4 (token c t) h hlt, outv_read c (H c) t h]
  unfold answer
  rw [hr t, h1 c, h4 c]
  simp only [hx, hw _ hlt]

/-- The idealized kernel computes the reference's result on every device's block, whenever the routes fit. -/
theorem algebraic [hP : Cert.Pre_capacity_KernelIdeal.Facts] :
    Cert.algebraic_KernelIdeal_ReferenceIdeal_pre_capacity_KernelIdeal := by
  intro m ρ m' ρ' hpre hagree
  refine ⟨_, (θ_run defs _ _).mono (fun r h c => ⟨((h.1 c 5).trans (final_out m ρ c)).trans ?_, args_kept m ρ h.1 c⟩)
      (run_main (F := Ideal) m ρ),
    (θ_run Cert.ReferenceIdeal.defs _ _).mono
      (fun _ h => ⟨(h 0).1.trans (Cert.ReferenceIdeal.Read.val_main_v27_eq _ _ _ _ _), (h 0).2⟩)
      (Cert.ReferenceIdeal.Value.run (F := Ideal) m' ρ')⟩
  refine outv_block _ _ _ _ _ (fun c => ?_) (fun c => (xv_eq m ρ c).trans (hagree c).1)
    (fun c => (rwv_eq m ρ c).trans (hagree c).2.1) (fun c => (idxv_eq m ρ c).trans (hagree c).2.2.1)
    (fun c => (ewv_eq m ρ c).trans (hagree c).2.2.2.1) (fun c => (swv_eq m ρ c).trans (hagree c).2.2.2.2) c
  have hf := fits_of_need (hpre c)
  rw [← idxv_eq m ρ c] at hf
  exact hf

end Cert.Moe

end
-- ==== Proof.lean ====
/-
# The claim

The sixteen-device mixture-of-experts kernel against the plain layer on one device: the frames of the kernel, of its
idealized program and of the reference (Proof/Frames.lean), the idealized program being the kernel's, with no rewrites,
and the value claim (Proof/Algebraic.lean).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Frames
public import proofs.«01_k».proof.Proof.Algebraic

@[expose] public section

noncomputable section

namespace Cert.Proof

open Idealize.ShloMosaic Idealize.SL.Sem Cert.Kernel

/-- All the claims, with the stated facts of the three programs and of the precondition at its two sizes. -/
theorem claim : Cert.Claim :=
  ⟨Cert.Kernel.Gen.facts, Cert.KernelIdeal.Gen.facts, Cert.ReferenceIdeal.Gen.facts, Cert.Moe.facts_need,
    Cert.Moe.facts_need_all, Cert.Moe.frame_kernel, Cert.Moe.frame_ideal, fun m g _ => Cert.Moe.frame_any m g,
    Cert.Moe.frame_reference, fun m g _ => Cert.Moe.frame_reference m g trivial, trivial,
    Cert.Moe.algebraic (hP := Cert.Moe.facts_need)⟩

end Cert.Proof

end
